-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x96x384x384 : Shape := ⟨4, ![4, 96, 384, 384]⟩
abbrev S4x384 : Shape := ⟨2, ![4, 384]⟩
abbrev S4x384x384 : Shape := ⟨3, ![4, 384, 384]⟩
abbrev S_ : Shape := ⟨0, ![]⟩

class Facts : Prop where
  bcast_S_S4x384x384 : S_.BroadcastsInDim S4x384x384 (![] : Fin 0 → Fin S4x384x384.rank)
  reducesTo_S4x384x384_S_d0_1_2 : S4x384x384.ReducesTo [0, 1, 2] S_
  h_S_ : 0 < S_.numel

variable [Facts]

def fn {F : FTy → Type} [FloatOps F] (main_arg0 : FVec F S4x96x384x384 .f32) (main_arg1 : FVec F S4x384 .f32) (main_arg2 : IVec S4x384x384 32) (main_arg3 : IVec S4x384x384 32) : IVec S_ 1 :=
  let main_c : IVec S_ 32 := constantI S_ 32 0#32
  let main_v0 : IVec S4x384x384 32 := broadcastInDim S4x384x384 ![] bcast_S_S4x384x384 main_c
  let main_v1 : IVec S4x384x384 1 := cmpi .sge main_arg2 main_v0
  let main_c_0 : IVec S_ 1 := constantI S_ 1 1#1
  let main_v2 : IVec S_ 1 := (fun x v => Host.reduce IntOp.andi x v reducesTo_S4x384x384_S_d0_1_2 h_S_) main_v1 main_c_0
  let main_c_1 : IVec S_ 32 := constantI S_ 32 384#32
  let main_v3 : IVec S4x384x384 32 := broadcastInDim S4x384x384 ![] bcast_S_S4x384x384 main_c_1
  let main_v4 : IVec S4x384x384 1 := cmpi .slt main_arg2 main_v3
  let main_c_2 : IVec S_ 1 := constantI S_ 1 1#1
  let main_v5 : IVec S_ 1 := (fun x v => Host.reduce IntOp.andi x v reducesTo_S4x384x384_S_d0_1_2 h_S_) main_v4 main_c_2
  let main_v6 : IVec S_ 1 := andi main_v2 main_v5
  let main_c_3 : IVec S_ 32 := constantI S_ 32 0#32
  let main_v7 : IVec S4x384x384 32 := broadcastInDim S4x384x384 ![] bcast_S_S4x384x384 main_c_3
  let main_v8 : IVec S4x384x384 1 := cmpi .sge main_arg3 main_v7
  let main_c_4 : IVec S_ 1 := constantI S_ 1 1#1
  let main_v9 : IVec S_ 1 := (fun x v => Host.reduce IntOp.andi x v reducesTo_S4x384x384_S_d0_1_2 h_S_) main_v8 main_c_4
  let main_v10 : IVec S_ 1 := andi main_v6 main_v9
  let main_c_5 : IVec S_ 32 := constantI S_ 32 2#32
  let main_v11 : IVec S4x384x384 32 := broadcastInDim S4x384x384 ![] bcast_S_S4x384x384 main_c_5
  let main_v12 : IVec S4x384x384 1 := cmpi .slt main_arg3 main_v11
  let main_c_6 : IVec S_ 1 := constantI S_ 1 1#1
  let main_v13 : IVec S_ 1 := (fun x v => Host.reduce IntOp.andi x v reducesTo_S4x384x384_S_d0_1_2 h_S_) main_v12 main_c_6
  let main_v14 : IVec S_ 1 := andi main_v10 main_v13
  main_v14
-- ==== Kernel.lean ====
abbrev S4x96x384x384 : Shape := ⟨4, ![4, 96, 384, 384]⟩
abbrev S4x384 : Shape := ⟨2, ![4, 384]⟩
abbrev S4x384x384 : Shape := ⟨3, ![4, 384, 384]⟩
abbrev S_ : Shape := ⟨0, ![]⟩
abbrev S1536 : Shape := ⟨1, ![1536]⟩
abbrev S147456 : Shape := ⟨1, ![147456]⟩
abbrev S2x8x384 : Shape := ⟨3, ![2, 8, 384]⟩
abbrev S2x12x8x384 : Shape := ⟨4, ![2, 12, 8, 384]⟩
abbrev S4704 : Shape := ⟨1, ![4704]⟩
abbrev S384 : Shape := ⟨1, ![384]⟩
abbrev S16 : Shape := ⟨1, ![16]⟩
abbrev S1x8x384 : Shape := ⟨3, ![1, 8, 384]⟩
abbrev S8x384 : Shape := ⟨2, ![8, 384]⟩
abbrev S1x12x8x384 : Shape := ⟨4, ![1, 12, 8, 384]⟩
abbrev S12x8x384 : Shape := ⟨3, ![12, 8, 384]⟩
abbrev S1x1x16 : Shape := ⟨3, ![1, 1, 16]⟩
abbrev S1x1x1x16 : Shape := ⟨4, ![1, 1, 1, 16]⟩
abbrev S4608 : Shape := ⟨1, ![4608]⟩
abbrev S4x96x384 : Shape := ⟨3, ![4, 96, 384]⟩

abbrev nBuf : Table → Nat
  | .hbm => 14
  | .local .scVector .vmem => 4
  | _ => 0

abbrev bufTy : (tb : Table) → Fin (nBuf tb) → BufTy
  | .hbm, ⟨0, _⟩ => ⟨S4x96x384x384, .f32⟩
  | .hbm, ⟨1, _⟩ => ⟨S4x384, .f32⟩
  | .hbm, ⟨2, _⟩ => ⟨S4x384x384, .i32⟩
  | .hbm, ⟨3, _⟩ => ⟨S4x384x384, .i32⟩
  | .hbm, ⟨4, _⟩ => ⟨S_, .i32⟩
  | .hbm, ⟨5, _⟩ => ⟨S4x384x384, .i32⟩
  | .hbm, ⟨6, _⟩ => ⟨S4x384x384, .i1⟩
  | .hbm, ⟨7, _⟩ => ⟨S_, .i32⟩
  | .hbm, ⟨8, _⟩ => ⟨S4x384x384, .i32⟩
  | .hbm, ⟨9, _⟩ => ⟨S4x384x384, .i32⟩
  | .hbm, ⟨10, _⟩ => ⟨S4x384x384, .i32⟩
  | .hbm, ⟨11, _⟩ => ⟨S1536, .f32⟩
  | .hbm, ⟨12, _⟩ => ⟨S147456, .f32⟩
  | .hbm, ⟨13, _⟩ => ⟨S4x96x384, .f32⟩
  | .local .scVector .vmem, ⟨0, _⟩ => ⟨S2x8x384, .i32⟩
  | .local .scVector .vmem, ⟨1, _⟩ => ⟨S2x12x8x384, .f32⟩
  | .local .scVector .vmem, ⟨2, _⟩ => ⟨S4704, .f32⟩
  | .local .scVector .vmem, ⟨3, _⟩ => ⟨S384, .f32⟩
  | _, _ => ⟨S4x96x384x384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg0_scv : Ref sig .scVector := ⟨.hbm, 0, rfl⟩
abbrev main_v4_scv : Ref sig .scVector := ⟨.hbm, 10, rfl⟩
abbrev main_v5_scv : Ref sig .scVector := ⟨.hbm, 11, rfl⟩
abbrev main_v6_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_11 : BitVec 32 := 0#32
  let c294_i32 : BitVec 32 := 294#32
  let v32 : BitVec 32 := Scalar.addi c0_i32_11 c294_i32
  let c1_i32_12 : BitVec 32 := 1#32
  ⟨c0_i32_11, v32, c1_i32_12⟩
def k0_off1 (k0_t1 : Fin k0_t1_loop.trips) : Fin 1 → Nat :=
  let c0_i32_11 : BitVec 32 := 0#32
  let c1_i32_12 : BitVec 32 := 1#32
  let arg12 : BitVec 32 := Scf.iv c0_i32_11 c1_i32_12 k0_t1
  let c16_i32_63 : BitVec 32 := 16#32
  let v80 : BitVec 32 := Scalar.muli arg12 c16_i32_63
  let v81 : Index := Scalar.indexCast v80
  ![v81.toNat]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c384_i32 : BitVec 32 := 384#32
  let v33 : BitVec 32 := Scalar.muli v18 c384_i32
  ![v33.toNat]
def k0_off3 (i : grid0.Coords) (c0_i32_14 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c6_i32 : BitVec 32 := 6#32
  let v34 : BitVec 32 := Scalar.muli v28 c6_i32
  let v35 : BitVec 32 := Scalar.addi c0_i32_14 v34
  let c48_i32 : BitVec 32 := 48#32
  let v36 : BitVec 32 := Scalar.remsi v35 c48_i32
  let c8_i32_15 : BitVec 32 := 8#32
  let v37 : BitVec 32 := Scalar.muli v36 c8_i32_15
  let c0_i32_20 : BitVec 32 := 0#32
  ![v18.toNat, v37.toNat, 0]
def k0_off4 (i : grid0.Coords) (c0_i32_14 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32_16 : BitVec 32 := 12#32
  let v38 : BitVec 32 := Scalar.muli v28 c12_i32_16
  let c6_i32 : BitVec 32 := 6#32
  let v34 : BitVec 32 := Scalar.muli v28 c6_i32
  let v35 : BitVec 32 := Scalar.addi c0_i32_14 v34
  let c48_i32 : BitVec 32 := 48#32
  let v36 : BitVec 32 := Scalar.remsi v35 c48_i32
  let c8_i32_15 : BitVec 32 := 8#32
  let v37 : BitVec 32 := Scalar.muli v36 c8_i32_15
  let c0_i32_28 : BitVec 32 := 0#32
  ![v18.toNat, v38.toNat, v37.toNat, 0]
@[reducible] def k0_t2_loop : Scf.Loop 32 :=
  let c0_i32_55 : BitVec 32 := 0#32
  let c24_i32 : BitVec 32 := 24#32
  let v76 : BitVec 32 := Scalar.addi c0_i32_55 c24_i32
  let c1_i32_56 : BitVec 32 := 1#32
  ⟨c0_i32_55, v76, c1_i32_56⟩
def k0_off5 (i : grid0.Coords) (k0_t2 : Fin k0_t2_loop.trips) (c0_i32_63 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_55 : BitVec 32 := 0#32
  let c1_i32_56 : BitVec 32 := 1#32
  let arg12 : BitVec 32 := Scf.iv c0_i32_55 c1_i32_56 k0_t2
  let c2_i32 : BitVec 32 := 2#32
  let v79 : BitVec 32 := Scalar.muli arg12 c2_i32
  let v80 : BitVec 32 := Scalar.addi v79 c0_i32_63
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c6_i32_64 : BitVec 32 := 6#32
  let v81 : BitVec 32 := Scalar.muli v28 c6_i32_64
  let v82 : BitVec 32 := Scalar.addi v80 v81
  let c48_i32_65 : BitVec 32 := 48#32
  let v83 : BitVec 32 := Scalar.remsi v82 c48_i32_65
  let c8_i32_66 : BitVec 32 := 8#32
  let v84 : BitVec 32 := Scalar.muli v83 c8_i32_66
  let c0_i32_71 : BitVec 32 := 0#32
  ![v18.toNat, v84.toNat, 0]
def k0_off6 (i : grid0.Coords) (k0_t2 : Fin k0_t2_loop.trips) (c0_i32_63 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32_67 : BitVec 32 := 12#32
  let v85 : BitVec 32 := Scalar.muli v28 c12_i32_67
  let c0_i32_55 : BitVec 32 := 0#32
  let c1_i32_56 : BitVec 32 := 1#32
  let arg12 : BitVec 32 := Scf.iv c0_i32_55 c1_i32_56 k0_t2
  let c2_i32 : BitVec 32 := 2#32
  let v79 : BitVec 32 := Scalar.muli arg12 c2_i32
  let v80 : BitVec 32 := Scalar.addi v79 c0_i32_63
  let c6_i32_64 : BitVec 32 := 6#32
  let v81 : BitVec 32 := Scalar.muli v28 c6_i32_64
  let v82 : BitVec 32 := Scalar.addi v80 v81
  let c48_i32_65 : BitVec 32 := 48#32
  let v83 : BitVec 32 := Scalar.remsi v82 c48_i32_65
  let c8_i32_66 : BitVec 32 := 8#32
  let v84 : BitVec 32 := Scalar.muli v83 c8_i32_66
  let c0_i32_79 : BitVec 32 := 0#32
  ![v18.toNat, v85.toNat, v84.toNat, 0]
@[reducible] def k0_t3_loop : Scf.Loop 32 :=
  let c0_i32_84 : BitVec 32 := 0#32
  let c192_i32 : BitVec 32 := 192#32
  let v102 : BitVec 32 := Scalar.addi c0_i32_84 c192_i32
  let c1_i32_85 : BitVec 32 := 1#32
  ⟨c0_i32_84, v102, c1_i32_85⟩
def k0_off7 (k0_t3 : Fin k0_t3_loop.trips) : Fin 3 → Nat :=
  let c0_i32_135 : BitVec 32 := 0#32
  let v165 : Index := Scalar.indexCast c0_i32_135
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v166 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v167 : Index := Scalar.indexCast v164
  ![0, v166.toNat, v167.toNat]
def k0_off8 (k0_t3 : Fin k0_t3_loop.trips) : Fin 4 → Nat :=
  let c0_i32_137 : BitVec 32 := 0#32
  let v173 : Index := Scalar.indexCast c0_i32_137
  let c0_i32_138 : BitVec 32 := 0#32
  let v174 : Index := Scalar.indexCast c0_i32_138
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v175 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v176 : Index := Scalar.indexCast v164
  ![0, 0, v175.toNat, v176.toNat]
def k0_off9 (k0_t3 : Fin k0_t3_loop.trips) : Fin 4 → Nat :=
  let c0_i32_140 : BitVec 32 := 0#32
  let v179 : Index := Scalar.indexCast c0_i32_140
  let c1_i32_141 : BitVec 32 := 1#32
  let v180 : Index := Scalar.indexCast c1_i32_141
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v181 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v182 : Index := Scalar.indexCast v164
  ![0, 1, v181.toNat, v182.toNat]
def k0_off10 (k0_t3 : Fin k0_t3_loop.trips) : Fin 4 → Nat :=
  let c0_i32_142 : BitVec 32 := 0#32
  let v185 : Index := Scalar.indexCast c0_i32_142
  let c2_i32_143 : BitVec 32 := 2#32
  let v186 : Index := Scalar.indexCast c2_i32_143
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v187 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v188 : Index := Scalar.indexCast v164
  ![0, 2, v187.toNat, v188.toNat]
def k0_off11 (k0_t3 : Fin k0_t3_loop.trips) : Fin 4 → Nat :=
  let c0_i32_144 : BitVec 32 := 0#32
  let v191 : Index := Scalar.indexCast c0_i32_144
  let c3_i32 : BitVec 32 := 3#32
  let v192 : Index := Scalar.indexCast c3_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v193 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v194 : Index := Scalar.indexCast v164
  ![0, 3, v193.toNat, v194.toNat]
def k0_off12 (k0_t3 : Fin k0_t3_loop.trips) : Fin 4 → Nat :=
  let c0_i32_145 : BitVec 32 := 0#32
  let v197 : Index := Scalar.indexCast c0_i32_145
  let c4_i32 : BitVec 32 := 4#32
  let v198 : Index := Scalar.indexCast c4_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v199 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v200 : Index := Scalar.indexCast v164
  ![0, 4, v199.toNat, v200.toNat]
def k0_off13 (k0_t3 : Fin k0_t3_loop.trips) : Fin 4 → Nat :=
  let c0_i32_146 : BitVec 32 := 0#32
  let v203 : Index := Scalar.indexCast c0_i32_146
  let c5_i32 : BitVec 32 := 5#32
  let v204 : Index := Scalar.indexCast c5_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v205 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v206 : Index := Scalar.indexCast v164
  ![0, 5, v205.toNat, v206.toNat]
def k0_off14 (k0_t3 : Fin k0_t3_loop.trips) : Fin 4 → Nat :=
  let c0_i32_147 : BitVec 32 := 0#32
  let v209 : Index := Scalar.indexCast c0_i32_147
  let c6_i32_148 : BitVec 32 := 6#32
  let v210 : Index := Scalar.indexCast c6_i32_148
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v211 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v212 : Index := Scalar.indexCast v164
  ![0, 6, v211.toNat, v212.toNat]
def k0_off15 (k0_t3 : Fin k0_t3_loop.trips) : Fin 4 → Nat :=
  let c0_i32_149 : BitVec 32 := 0#32
  let v215 : Index := Scalar.indexCast c0_i32_149
  let c7_i32 : BitVec 32 := 7#32
  let v216 : Index := Scalar.indexCast c7_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v217 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v218 : Index := Scalar.indexCast v164
  ![0, 7, v217.toNat, v218.toNat]
def k0_off16 (k0_t3 : Fin k0_t3_loop.trips) : Fin 4 → Nat :=
  let c0_i32_150 : BitVec 32 := 0#32
  let v221 : Index := Scalar.indexCast c0_i32_150
  let c8_i32_151 : BitVec 32 := 8#32
  let v222 : Index := Scalar.indexCast c8_i32_151
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v223 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v224 : Index := Scalar.indexCast v164
  ![0, 8, v223.toNat, v224.toNat]
def k0_off17 (k0_t3 : Fin k0_t3_loop.trips) : Fin 4 → Nat :=
  let c0_i32_152 : BitVec 32 := 0#32
  let v227 : Index := Scalar.indexCast c0_i32_152
  let c9_i32 : BitVec 32 := 9#32
  let v228 : Index := Scalar.indexCast c9_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v229 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v230 : Index := Scalar.indexCast v164
  ![0, 9, v229.toNat, v230.toNat]
def k0_off18 (k0_t3 : Fin k0_t3_loop.trips) : Fin 4 → Nat :=
  let c0_i32_153 : BitVec 32 := 0#32
  let v233 : Index := Scalar.indexCast c0_i32_153
  let c10_i32 : BitVec 32 := 10#32
  let v234 : Index := Scalar.indexCast c10_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v235 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v236 : Index := Scalar.indexCast v164
  ![0, 10, v235.toNat, v236.toNat]
def k0_off19 (k0_t3 : Fin k0_t3_loop.trips) : Fin 4 → Nat :=
  let c0_i32_154 : BitVec 32 := 0#32
  let v239 : Index := Scalar.indexCast c0_i32_154
  let c11_i32 : BitVec 32 := 11#32
  let v240 : Index := Scalar.indexCast c11_i32
  let c0_i32_120 : BitVec 32 := 0#32
  let c0_i32_84 : BitVec 32 := 0#32
  let c1_i32_85 : BitVec 32 := 1#32
  let arg13 : BitVec 32 := Scf.iv c0_i32_84 c1_i32_85 k0_t3
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v241 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v242 : Index := Scalar.indexCast v164
  ![0, 11, v241.toNat, v242.toNat]

def k0_chk1 (v172 : IVec S16 32) : Prop :=
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a)
theorem k0_idx1_inb : ∀ (v172 : IVec S16 32) (k0_hw1 : k0_chk1 v172), ∀ a x, ((![v172] : Fin 1 → IVec S16 32) a x).toNat < S384.size a := fun v172 k0_hw1 => k0_hw1.1
theorem k0_idx2_inb : ∀ (v172 : IVec S16 32) (k0_hw1 : k0_chk1 v172), ∀ a x, ((![v172] : Fin 1 → IVec S16 32) a x).toNat < S384.size a := fun v172 k0_hw1 => k0_hw1.2.1
theorem k0_idx3_inb : ∀ (v172 : IVec S16 32) (k0_hw1 : k0_chk1 v172), ∀ a x, ((![v172] : Fin 1 → IVec S16 32) a x).toNat < S384.size a := fun v172 k0_hw1 => k0_hw1.2.2.1
theorem k0_idx4_inb : ∀ (v172 : IVec S16 32) (k0_hw1 : k0_chk1 v172), ∀ a x, ((![v172] : Fin 1 → IVec S16 32) a x).toNat < S384.size a := fun v172 k0_hw1 => k0_hw1.2.2.2.1
theorem k0_idx5_inb : ∀ (v172 : IVec S16 32) (k0_hw1 : k0_chk1 v172), ∀ a x, ((![v172] : Fin 1 → IVec S16 32) a x).toNat < S384.size a := fun v172 k0_hw1 => k0_hw1.2.2.2.2.1
theorem k0_idx6_inb : ∀ (v172 : IVec S16 32) (k0_hw1 : k0_chk1 v172), ∀ a x, ((![v172] : Fin 1 → IVec S16 32) a x).toNat < S384.size a := fun v172 k0_hw1 => k0_hw1.2.2.2.2.2.1
theorem k0_idx7_inb : ∀ (v172 : IVec S16 32) (k0_hw1 : k0_chk1 v172), ∀ a x, ((![v172] : Fin 1 → IVec S16 32) a x).toNat < S384.size a := fun v172 k0_hw1 => k0_hw1.2.2.2.2.2.2.1
theorem k0_idx8_inb : ∀ (v172 : IVec S16 32) (k0_hw1 : k0_chk1 v172), ∀ a x, ((![v172] : Fin 1 → IVec S16 32) a x).toNat < S384.size a := fun v172 k0_hw1 => k0_hw1.2.2.2.2.2.2.2.1
theorem k0_idx9_inb : ∀ (v172 : IVec S16 32) (k0_hw1 : k0_chk1 v172), ∀ a x, ((![v172] : Fin 1 → IVec S16 32) a x).toNat < S384.size a := fun v172 k0_hw1 => k0_hw1.2.2.2.2.2.2.2.2.1
theorem k0_idx10_inb : ∀ (v172 : IVec S16 32) (k0_hw1 : k0_chk1 v172), ∀ a x, ((![v172] : Fin 1 → IVec S16 32) a x).toNat < S384.size a := fun v172 k0_hw1 => k0_hw1.2.2.2.2.2.2.2.2.2.1
theorem k0_idx11_inb : ∀ (v172 : IVec S16 32) (k0_hw1 : k0_chk1 v172), ∀ a x, ((![v172] : Fin 1 → IVec S16 32) a x).toNat < S384.size a := fun v172 k0_hw1 => k0_hw1.2.2.2.2.2.2.2.2.2.2.1
theorem k0_idx12_inb : ∀ (v172 : IVec S16 32) (k0_hw1 : k0_chk1 v172), ∀ a x, ((![v172] : Fin 1 → IVec S16 32) a x).toNat < S384.size a := fun v172 k0_hw1 => k0_hw1.2.2.2.2.2.2.2.2.2.2.2
def k0_cond1 (k0_t2 : Fin k0_t2_loop.trips) : BitVec 1 :=
  let c0_i32_55 : BitVec 32 := 0#32
  let c1_i32_56 : BitVec 32 := 1#32
  let arg12 : BitVec 32 := Scf.iv c0_i32_55 c1_i32_56 k0_t2
  let c2_i32 : BitVec 32 := 2#32
  let v79 : BitVec 32 := Scalar.muli arg12 c2_i32
  let c0_i32_63 : BitVec 32 := 0#32
  let v80 : BitVec 32 := Scalar.addi v79 c0_i32_63
  let c2_i32_87 : BitVec 32 := 2#32
  let v103 : BitVec 32 := Scalar.addi v80 c2_i32_87
  let c48_i32_88 : BitVec 32 := 48#32
  let v104 : BitVec 1 := Scalar.cmpi .slt v103 c48_i32_88
  let v105 : BitVec 32 := Scalar.extui v104
  let c0_i32_89 : BitVec 32 := 0#32
  let v106 : BitVec 1 := Scalar.cmpi .ne v105 c0_i32_89
  v106

def k0_off20 (i : grid0.Coords) (k0_t2 : Fin k0_t2_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_55 : BitVec 32 := 0#32
  let c1_i32_56 : BitVec 32 := 1#32
  let arg12 : BitVec 32 := Scf.iv c0_i32_55 c1_i32_56 k0_t2
  let c2_i32 : BitVec 32 := 2#32
  let v79 : BitVec 32 := Scalar.muli arg12 c2_i32
  let c0_i32_63 : BitVec 32 := 0#32
  let v80 : BitVec 32 := Scalar.addi v79 c0_i32_63
  let c2_i32_119 : BitVec 32 := 2#32
  let v135 : BitVec 32 := Scalar.addi v80 c2_i32_119
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c6_i32_120 : BitVec 32 := 6#32
  let v136 : BitVec 32 := Scalar.muli v28 c6_i32_120
  let v137 : BitVec 32 := Scalar.addi v135 v136
  let c48_i32_121 : BitVec 32 := 48#32
  let v138 : BitVec 32 := Scalar.remsi v137 c48_i32_121
  let c8_i32_122 : BitVec 32 := 8#32
  let v139 : BitVec 32 := Scalar.muli v138 c8_i32_122
  let c0_i32_127 : BitVec 32 := 0#32
  ![v18.toNat, v139.toNat, 0]
def k0_off21 (i : grid0.Coords) (k0_t2 : Fin k0_t2_loop.trips) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32_123 : BitVec 32 := 12#32
  let v140 : BitVec 32 := Scalar.muli v28 c12_i32_123
  let c0_i32_55 : BitVec 32 := 0#32
  let c1_i32_56 : BitVec 32 := 1#32
  let arg12 : BitVec 32 := Scf.iv c0_i32_55 c1_i32_56 k0_t2
  let c2_i32 : BitVec 32 := 2#32
  let v79 : BitVec 32 := Scalar.muli arg12 c2_i32
  let c0_i32_63 : BitVec 32 := 0#32
  let v80 : BitVec 32 := Scalar.addi v79 c0_i32_63
  let c2_i32_119 : BitVec 32 := 2#32
  let v135 : BitVec 32 := Scalar.addi v80 c2_i32_119
  let c6_i32_120 : BitVec 32 := 6#32
  let v136 : BitVec 32 := Scalar.muli v28 c6_i32_120
  let v137 : BitVec 32 := Scalar.addi v135 v136
  let c48_i32_121 : BitVec 32 := 48#32
  let v138 : BitVec 32 := Scalar.remsi v137 c48_i32_121
  let c8_i32_122 : BitVec 32 := 8#32
  let v139 : BitVec 32 := Scalar.muli v138 c8_i32_122
  let c0_i32_135 : BitVec 32 := 0#32
  ![v18.toNat, v140.toNat, v139.toNat, 0]
@[reducible] def k0_t4_loop : Scf.Loop 32 :=
  let c0_i32_112 : BitVec 32 := 0#32
  let c192_i32_113 : BitVec 32 := 192#32
  let v130 : BitVec 32 := Scalar.addi c0_i32_112 c192_i32_113
  let c1_i32_114 : BitVec 32 := 1#32
  ⟨c0_i32_112, v130, c1_i32_114⟩
def k0_off22 (k0_t4 : Fin k0_t4_loop.trips) : Fin 3 → Nat :=
  let c1_i32_135 : BitVec 32 := 1#32
  let v165 : Index := Scalar.indexCast c1_i32_135
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v166 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v167 : Index := Scalar.indexCast v164
  ![1, v166.toNat, v167.toNat]
def k0_off23 (k0_t4 : Fin k0_t4_loop.trips) : Fin 4 → Nat :=
  let c1_i32_137 : BitVec 32 := 1#32
  let v173 : Index := Scalar.indexCast c1_i32_137
  let c0_i32_138 : BitVec 32 := 0#32
  let v174 : Index := Scalar.indexCast c0_i32_138
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v175 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v176 : Index := Scalar.indexCast v164
  ![1, 0, v175.toNat, v176.toNat]
def k0_off24 (k0_t4 : Fin k0_t4_loop.trips) : Fin 4 → Nat :=
  let c1_i32_140 : BitVec 32 := 1#32
  let v179 : Index := Scalar.indexCast c1_i32_140
  let c1_i32_141 : BitVec 32 := 1#32
  let v180 : Index := Scalar.indexCast c1_i32_141
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v181 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v182 : Index := Scalar.indexCast v164
  ![1, 1, v181.toNat, v182.toNat]
def k0_off25 (k0_t4 : Fin k0_t4_loop.trips) : Fin 4 → Nat :=
  let c1_i32_142 : BitVec 32 := 1#32
  let v185 : Index := Scalar.indexCast c1_i32_142
  let c2_i32_143 : BitVec 32 := 2#32
  let v186 : Index := Scalar.indexCast c2_i32_143
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v187 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v188 : Index := Scalar.indexCast v164
  ![1, 2, v187.toNat, v188.toNat]
def k0_off26 (k0_t4 : Fin k0_t4_loop.trips) : Fin 4 → Nat :=
  let c1_i32_144 : BitVec 32 := 1#32
  let v191 : Index := Scalar.indexCast c1_i32_144
  let c3_i32 : BitVec 32 := 3#32
  let v192 : Index := Scalar.indexCast c3_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v193 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v194 : Index := Scalar.indexCast v164
  ![1, 3, v193.toNat, v194.toNat]
def k0_off27 (k0_t4 : Fin k0_t4_loop.trips) : Fin 4 → Nat :=
  let c1_i32_145 : BitVec 32 := 1#32
  let v197 : Index := Scalar.indexCast c1_i32_145
  let c4_i32 : BitVec 32 := 4#32
  let v198 : Index := Scalar.indexCast c4_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v199 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v200 : Index := Scalar.indexCast v164
  ![1, 4, v199.toNat, v200.toNat]
def k0_off28 (k0_t4 : Fin k0_t4_loop.trips) : Fin 4 → Nat :=
  let c1_i32_146 : BitVec 32 := 1#32
  let v203 : Index := Scalar.indexCast c1_i32_146
  let c5_i32 : BitVec 32 := 5#32
  let v204 : Index := Scalar.indexCast c5_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v205 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v206 : Index := Scalar.indexCast v164
  ![1, 5, v205.toNat, v206.toNat]
def k0_off29 (k0_t4 : Fin k0_t4_loop.trips) : Fin 4 → Nat :=
  let c1_i32_147 : BitVec 32 := 1#32
  let v209 : Index := Scalar.indexCast c1_i32_147
  let c6_i32_148 : BitVec 32 := 6#32
  let v210 : Index := Scalar.indexCast c6_i32_148
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v211 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v212 : Index := Scalar.indexCast v164
  ![1, 6, v211.toNat, v212.toNat]
def k0_off30 (k0_t4 : Fin k0_t4_loop.trips) : Fin 4 → Nat :=
  let c1_i32_149 : BitVec 32 := 1#32
  let v215 : Index := Scalar.indexCast c1_i32_149
  let c7_i32 : BitVec 32 := 7#32
  let v216 : Index := Scalar.indexCast c7_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v217 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v218 : Index := Scalar.indexCast v164
  ![1, 7, v217.toNat, v218.toNat]
def k0_off31 (k0_t4 : Fin k0_t4_loop.trips) : Fin 4 → Nat :=
  let c1_i32_150 : BitVec 32 := 1#32
  let v221 : Index := Scalar.indexCast c1_i32_150
  let c8_i32_151 : BitVec 32 := 8#32
  let v222 : Index := Scalar.indexCast c8_i32_151
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v223 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v224 : Index := Scalar.indexCast v164
  ![1, 8, v223.toNat, v224.toNat]
def k0_off32 (k0_t4 : Fin k0_t4_loop.trips) : Fin 4 → Nat :=
  let c1_i32_152 : BitVec 32 := 1#32
  let v227 : Index := Scalar.indexCast c1_i32_152
  let c9_i32 : BitVec 32 := 9#32
  let v228 : Index := Scalar.indexCast c9_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v229 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v230 : Index := Scalar.indexCast v164
  ![1, 9, v229.toNat, v230.toNat]
def k0_off33 (k0_t4 : Fin k0_t4_loop.trips) : Fin 4 → Nat :=
  let c1_i32_153 : BitVec 32 := 1#32
  let v233 : Index := Scalar.indexCast c1_i32_153
  let c10_i32 : BitVec 32 := 10#32
  let v234 : Index := Scalar.indexCast c10_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v235 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v236 : Index := Scalar.indexCast v164
  ![1, 10, v235.toNat, v236.toNat]
def k0_off34 (k0_t4 : Fin k0_t4_loop.trips) : Fin 4 → Nat :=
  let c1_i32_154 : BitVec 32 := 1#32
  let v239 : Index := Scalar.indexCast c1_i32_154
  let c11_i32 : BitVec 32 := 11#32
  let v240 : Index := Scalar.indexCast c11_i32
  let c0_i32_120 : BitVec 32 := 0#32
  let c0_i32_112 : BitVec 32 := 0#32
  let c1_i32_114 : BitVec 32 := 1#32
  let arg13 : BitVec 32 := Scf.iv c0_i32_112 c1_i32_114 k0_t4
  let c1_i32_119 : BitVec 32 := 1#32
  let v135 : BitVec 32 := Scalar.muli arg13 c1_i32_119
  let v136 : BitVec 32 := Scalar.addi c0_i32_120 v135
  let c0_i32_122 : BitVec 32 := 0#32
  let v138 : BitVec 1 := Scalar.cmpi .sgt v136 c0_i32_122
  let v139 : BitVec 32 := Scalar.extui v138
  let c0_i32_123 : BitVec 32 := 0#32
  let v140 : BitVec 1 := Scalar.cmpi .slt v136 c0_i32_123
  let v141 : BitVec 32 := Scalar.extui v140
  let v142 : BitVec 32 := Scalar.subi v139 v141
  let c24_i32_121 : BitVec 32 := 24#32
  let c0_i32_124 : BitVec 32 := 0#32
  let v143 : BitVec 1 := Scalar.cmpi .sgt c24_i32_121 c0_i32_124
  let v144 : BitVec 32 := Scalar.extui v143
  let c0_i32_125 : BitVec 32 := 0#32
  let v145 : BitVec 1 := Scalar.cmpi .slt c24_i32_121 c0_i32_125
  let v146 : BitVec 32 := Scalar.extui v145
  let v147 : BitVec 32 := Scalar.subi v144 v146
  let v148 : BitVec 1 := Scalar.cmpi .ne v142 v147
  let v149 : BitVec 32 := Scalar.remsi v136 c24_i32_121
  let c0_i32_126 : BitVec 32 := 0#32
  let v150 : BitVec 1 := Scalar.cmpi .ne v149 c0_i32_126
  let v151 : BitVec 1 := Scalar.andi v148 v150
  let v137 : BitVec 32 := Scalar.divsi v136 c24_i32_121
  let c1_i32_127 : BitVec 32 := 1#32
  let v152 : BitVec 32 := Scalar.subi v137 c1_i32_127
  let v153 : BitVec 32 := Scalar.select v151 v152 v137
  let v241 : Index := Scalar.indexCast v153
  let c24_i32_128 : BitVec 32 := 24#32
  let c0_i32_129 : BitVec 32 := 0#32
  let v154 : BitVec 1 := Scalar.cmpi .eq c24_i32_128 c0_i32_129
  let c1_i32_130 : BitVec 32 := 1#32
  let v155 : BitVec 32 := Scalar.select v154 c1_i32_130 c24_i32_128
  let v156 : BitVec 32 := Scalar.remsi v136 v155
  let c0_i32_132 : BitVec 32 := 0#32
  let v158 : BitVec 1 := Scalar.cmpi .slt v156 c0_i32_132
  let c0_i32_133 : BitVec 32 := 0#32
  let v159 : BitVec 1 := Scalar.cmpi .slt v155 c0_i32_133
  let v160 : BitVec 1 := Scalar.xori v158 v159
  let c0_i32_131 : BitVec 32 := 0#32
  let v157 : BitVec 1 := Scalar.cmpi .ne v156 c0_i32_131
  let v161 : BitVec 1 := Scalar.andi v160 v157
  let v162 : BitVec 32 := Scalar.addi v156 v155
  let v163 : BitVec 32 := Scalar.select v161 v162 v156
  let c16_i32_134 : BitVec 32 := 16#32
  let v164 : BitVec 32 := Scalar.muli v163 c16_i32_134
  let v242 : Index := Scalar.indexCast v164
  ![1, 11, v241.toNat, v242.toNat]

def k0_chk2 (v172 : IVec S16 32) : Prop :=
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a) ∧
  (∀ a x, ((![v172] : Fin 1 → IVec S16 32) a x).toNat < S384.size a)
theorem k0_idx13_inb : ∀ (v172 : IVec S16 32) (k0_hw2 : k0_chk2 v172), ∀ a x, ((![v172] : Fin 1 → IVec S16 32) a x).toNat < S384.size a := fun v172 k0_hw2 => k0_hw2.1
theorem k0_idx14_inb : ∀ (v172 : IVec S16 32) (k0_hw2 : k0_chk2 v172), ∀ a x, ((![v172] : Fin 1 → IVec S16 32) a x).toNat < S384.size a := fun v172 k0_hw2 => k0_hw2.2.1
theorem k0_idx15_inb : ∀ (v172 : IVec S16 32) (k0_hw2 : k0_chk2 v172), ∀ a x, ((![v172] : Fin 1 → IVec S16 32) a x).toNat < S384.size a := fun v172 k0_hw2 => k0_hw2.2.2.1
theorem k0_idx16_inb : ∀ (v172 : IVec S16 32) (k0_hw2 : k0_chk2 v172), ∀ a x, ((![v172] : Fin 1 → IVec S16 32) a x).toNat < S384.size a := fun v172 k0_hw2 => k0_hw2.2.2.2.1
theorem k0_idx17_inb : ∀ (v172 : IVec S16 32) (k0_hw2 : k0_chk2 v172), ∀ a x, ((![v172] : Fin 1 → IVec S16 32) a x).toNat < S384.size a := fun v172 k0_hw2 => k0_hw2.2.2.2.2.1
theorem k0_idx18_inb : ∀ (v172 : IVec S16 32) (k0_hw2 : k0_chk2 v172), ∀ a x, ((![v172] : Fin 1 → IVec S16 32) a x).toNat < S384.size a := fun v172 k0_hw2 => k0_hw2.2.2.2.2.2.1
theorem k0_idx19_inb : ∀ (v172 : IVec S16 32) (k0_hw2 : k0_chk2 v172), ∀ a x, ((![v172] : Fin 1 → IVec S16 32) a x).toNat < S384.size a := fun v172 k0_hw2 => k0_hw2.2.2.2.2.2.2.1
theorem k0_idx20_inb : ∀ (v172 : IVec S16 32) (k0_hw2 : k0_chk2 v172), ∀ a x, ((![v172] : Fin 1 → IVec S16 32) a x).toNat < S384.size a := fun v172 k0_hw2 => k0_hw2.2.2.2.2.2.2.2.1
theorem k0_idx21_inb : ∀ (v172 : IVec S16 32) (k0_hw2 : k0_chk2 v172), ∀ a x, ((![v172] : Fin 1 → IVec S16 32) a x).toNat < S384.size a := fun v172 k0_hw2 => k0_hw2.2.2.2.2.2.2.2.2.1
theorem k0_idx22_inb : ∀ (v172 : IVec S16 32) (k0_hw2 : k0_chk2 v172), ∀ a x, ((![v172] : Fin 1 → IVec S16 32) a x).toNat < S384.size a := fun v172 k0_hw2 => k0_hw2.2.2.2.2.2.2.2.2.2.1
theorem k0_idx23_inb : ∀ (v172 : IVec S16 32) (k0_hw2 : k0_chk2 v172), ∀ a x, ((![v172] : Fin 1 → IVec S16 32) a x).toNat < S384.size a := fun v172 k0_hw2 => k0_hw2.2.2.2.2.2.2.2.2.2.2.1
theorem k0_idx24_inb : ∀ (v172 : IVec S16 32) (k0_hw2 : k0_chk2 v172), ∀ a x, ((![v172] : Fin 1 → IVec S16 32) a x).toNat < S384.size a := fun v172 k0_hw2 => k0_hw2.2.2.2.2.2.2.2.2.2.2.2
def k0_cond2 (k0_t2 : Fin k0_t2_loop.trips) : BitVec 1 :=
  let c0_i32_55 : BitVec 32 := 0#32
  let c1_i32_56 : BitVec 32 := 1#32
  let arg12 : BitVec 32 := Scf.iv c0_i32_55 c1_i32_56 k0_t2
  let c2_i32_90 : BitVec 32 := 2#32
  let v107 : BitVec 32 := Scalar.muli arg12 c2_i32_90
  let c1_i32_91 : BitVec 32 := 1#32
  let v108 : BitVec 32 := Scalar.addi v107 c1_i32_91
  let c2_i32_116 : BitVec 32 := 2#32
  let v131 : BitVec 32 := Scalar.addi v108 c2_i32_116
  let c48_i32_117 : BitVec 32 := 48#32
  let v132 : BitVec 1 := Scalar.cmpi .slt v131 c48_i32_117
  let v133 : BitVec 32 := Scalar.extui v132
  let c0_i32_118 : BitVec 32 := 0#32
  let v134 : BitVec 1 := Scalar.cmpi .ne v133 c0_i32_118
  v134

def k0_off35 (i : grid0.Coords) (k0_t2 : Fin k0_t2_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_55 : BitVec 32 := 0#32
  let c1_i32_56 : BitVec 32 := 1#32
  let arg12 : BitVec 32 := Scf.iv c0_i32_55 c1_i32_56 k0_t2
  let c2_i32_90 : BitVec 32 := 2#32
  let v107 : BitVec 32 := Scalar.muli arg12 c2_i32_90
  let c1_i32_91 : BitVec 32 := 1#32
  let v108 : BitVec 32 := Scalar.addi v107 c1_i32_91
  let c2_i32_119 : BitVec 32 := 2#32
  let v135 : BitVec 32 := Scalar.addi v108 c2_i32_119
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c6_i32_120 : BitVec 32 := 6#32
  let v136 : BitVec 32 := Scalar.muli v28 c6_i32_120
  let v137 : BitVec 32 := Scalar.addi v135 v136
  let c48_i32_121 : BitVec 32 := 48#32
  let v138 : BitVec 32 := Scalar.remsi v137 c48_i32_121
  let c8_i32_122 : BitVec 32 := 8#32
  let v139 : BitVec 32 := Scalar.muli v138 c8_i32_122
  let c0_i32_127 : BitVec 32 := 0#32
  ![v18.toNat, v139.toNat, 0]
def k0_off36 (i : grid0.Coords) (k0_t2 : Fin k0_t2_loop.trips) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32_123 : BitVec 32 := 12#32
  let v140 : BitVec 32 := Scalar.muli v28 c12_i32_123
  let c0_i32_55 : BitVec 32 := 0#32
  let c1_i32_56 : BitVec 32 := 1#32
  let arg12 : BitVec 32 := Scf.iv c0_i32_55 c1_i32_56 k0_t2
  let c2_i32_90 : BitVec 32 := 2#32
  let v107 : BitVec 32 := Scalar.muli arg12 c2_i32_90
  let c1_i32_91 : BitVec 32 := 1#32
  let v108 : BitVec 32 := Scalar.addi v107 c1_i32_91
  let c2_i32_119 : BitVec 32 := 2#32
  let v135 : BitVec 32 := Scalar.addi v108 c2_i32_119
  let c6_i32_120 : BitVec 32 := 6#32
  let v136 : BitVec 32 := Scalar.muli v28 c6_i32_120
  let v137 : BitVec 32 := Scalar.addi v135 v136
  let c48_i32_121 : BitVec 32 := 48#32
  let v138 : BitVec 32 := Scalar.remsi v137 c48_i32_121
  let c8_i32_122 : BitVec 32 := 8#32
  let v139 : BitVec 32 := Scalar.muli v138 c8_i32_122
  let c0_i32_135 : BitVec 32 := 0#32
  ![v18.toNat, v140.toNat, v139.toNat, 0]
@[reducible] def k0_t5_loop : Scf.Loop 32 :=
  let c0_i32_59 : BitVec 32 := 0#32
  let c288_i32 : BitVec 32 := 288#32
  let v77 : BitVec 32 := Scalar.addi c0_i32_59 c288_i32
  let c1_i32_60 : BitVec 32 := 1#32
  ⟨c0_i32_59, v77, c1_i32_60⟩
def k0_off37 (k0_t5 : Fin k0_t5_loop.trips) : Fin 1 → Nat :=
  let c0_i32_59 : BitVec 32 := 0#32
  let c1_i32_60 : BitVec 32 := 1#32
  let arg12 : BitVec 32 := Scf.iv c0_i32_59 c1_i32_60 k0_t5
  let c0_i32_64 : BitVec 32 := 0#32
  let v80 : BitVec 1 := Scalar.cmpi .sgt arg12 c0_i32_64
  let v81 : BitVec 32 := Scalar.extui v80
  let c0_i32_65 : BitVec 32 := 0#32
  let v82 : BitVec 1 := Scalar.cmpi .slt arg12 c0_i32_65
  let v83 : BitVec 32 := Scalar.extui v82
  let v84 : BitVec 32 := Scalar.subi v81 v83
  let c24_i32_63 : BitVec 32 := 24#32
  let c0_i32_66 : BitVec 32 := 0#32
  let v85 : BitVec 1 := Scalar.cmpi .sgt c24_i32_63 c0_i32_66
  let v86 : BitVec 32 := Scalar.extui v85
  let c0_i32_67 : BitVec 32 := 0#32
  let v87 : BitVec 1 := Scalar.cmpi .slt c24_i32_63 c0_i32_67
  let v88 : BitVec 32 := Scalar.extui v87
  let v89 : BitVec 32 := Scalar.subi v86 v88
  let v90 : BitVec 1 := Scalar.cmpi .ne v84 v89
  let v91 : BitVec 32 := Scalar.remsi arg12 c24_i32_63
  let c0_i32_68 : BitVec 32 := 0#32
  let v92 : BitVec 1 := Scalar.cmpi .ne v91 c0_i32_68
  let v93 : BitVec 1 := Scalar.andi v90 v92
  let v79 : BitVec 32 := Scalar.divsi arg12 c24_i32_63
  let c1_i32_69 : BitVec 32 := 1#32
  let v94 : BitVec 32 := Scalar.subi v79 c1_i32_69
  let v95 : BitVec 32 := Scalar.select v93 v94 v79
  let c392_i32 : BitVec 32 := 392#32
  let v98 : BitVec 32 := Scalar.muli v95 c392_i32
  let c24_i32_70 : BitVec 32 := 24#32
  let v96 : BitVec 32 := Scalar.remsi arg12 c24_i32_70
  let c16_i32_71 : BitVec 32 := 16#32
  let v97 : BitVec 32 := Scalar.muli v96 c16_i32_71
  let v99 : BitVec 32 := Scalar.addi v98 v97
  let v100 : Index := Scalar.indexCast v99
  ![v100.toNat]
def k0_off38 (k0_t5 : Fin k0_t5_loop.trips) : Fin 1 → Nat :=
  let c0_i32_59 : BitVec 32 := 0#32
  let c1_i32_60 : BitVec 32 := 1#32
  let arg12 : BitVec 32 := Scf.iv c0_i32_59 c1_i32_60 k0_t5
  let c24_i32_70 : BitVec 32 := 24#32
  let v96 : BitVec 32 := Scalar.remsi arg12 c24_i32_70
  let c16_i32_71 : BitVec 32 := 16#32
  let v97 : BitVec 32 := Scalar.muli v96 c16_i32_71
  let v102 : Index := Scalar.indexCast v97
  ![v102.toNat]
def k0_off39 (k0_t5 : Fin k0_t5_loop.trips) : Fin 1 → Nat :=
  let c0_i32_59 : BitVec 32 := 0#32
  let c1_i32_60 : BitVec 32 := 1#32
  let arg12 : BitVec 32 := Scf.iv c0_i32_59 c1_i32_60 k0_t5
  let c16_i32_72 : BitVec 32 := 16#32
  let v105 : BitVec 32 := Scalar.muli arg12 c16_i32_72
  let v106 : Index := Scalar.indexCast v105
  ![v106.toNat]
def k0_off40 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c96_i32 : BitVec 32 := 96#32
  let v29 : BitVec 32 := Scalar.muli v18 c96_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v30 : BitVec 32 := Scalar.muli v28 c12_i32
  let v31 : BitVec 32 := Scalar.addi v29 v30
  let c384_i32_62 : BitVec 32 := 384#32
  let v78 : BitVec 32 := Scalar.muli v31 c384_i32_62
  ![v78.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x384x384 : Shape := ⟨4, ![4, 96, 384, 384]⟩
abbrev S4x384 : Shape := ⟨2, ![4, 384]⟩
abbrev S4x384x384 : Shape := ⟨3, ![4, 384, 384]⟩
abbrev S4x1x384x384 : Shape := ⟨4, ![4, 1, 384, 384]⟩
abbrev S4 : Shape := ⟨1, ![4]⟩
abbrev S4x1 : Shape := ⟨2, ![4, 1]⟩
abbrev S_ : Shape := ⟨0, ![]⟩
abbrev S96 : Shape := ⟨1, ![96]⟩
abbrev S1x96 : Shape := ⟨2, ![1, 96]⟩
abbrev S4x96 : Shape := ⟨2, ![4, 96]⟩
abbrev S4x96x1x1 : Shape := ⟨4, ![4, 96, 1, 1]⟩
abbrev S147456 : Shape := ⟨1, ![147456]⟩
abbrev S56623104 : Shape := ⟨1, ![56623104]⟩
abbrev S56623104x1 : Shape := ⟨2, ![56623104, 1]⟩
abbrev S4x96x384 : Shape := ⟨3, ![4, 96, 384]⟩
abbrev S4x1x384 : Shape := ⟨3, ![4, 1, 384]⟩

abbrev nBuf : Space → Nat
  | .hbm => 43
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S4x384, .f32⟩
  | .hbm, ⟨2, _⟩ => ⟨S4x384x384, .i32⟩
  | .hbm, ⟨3, _⟩ => ⟨S4x384x384, .i32⟩
  | .hbm, ⟨4, _⟩ => ⟨S4x1x384x384, .i32⟩
  | .hbm, ⟨5, _⟩ => ⟨S4x1x384x384, .f32⟩
  | .hbm, ⟨6, _⟩ => ⟨S4x96x384x384, .f32⟩
  | .hbm, ⟨7, _⟩ => ⟨S4x96x384x384, .f32⟩
  | .hbm, ⟨8, _⟩ => ⟨S4x1x384x384, .i32⟩
  | .hbm, ⟨9, _⟩ => ⟨S4x96x384x384, .i32⟩
  | .hbm, ⟨10, _⟩ => ⟨S4, .i32⟩
  | .hbm, ⟨11, _⟩ => ⟨S4x1, .i32⟩
  | .hbm, ⟨12, _⟩ => ⟨S_, .i32⟩
  | .hbm, ⟨13, _⟩ => ⟨S4x1, .i32⟩
  | .hbm, ⟨14, _⟩ => ⟨S4x1, .i32⟩
  | .hbm, ⟨15, _⟩ => ⟨S96, .i32⟩
  | .hbm, ⟨16, _⟩ => ⟨S1x96, .i32⟩
  | .hbm, ⟨17, _⟩ => ⟨S4x96, .i32⟩
  | .hbm, ⟨18, _⟩ => ⟨S4x96, .i32⟩
  | .hbm, ⟨19, _⟩ => ⟨S4x96, .i32⟩
  | .hbm, ⟨20, _⟩ => ⟨S_, .i32⟩
  | .hbm, ⟨21, _⟩ => ⟨S4x96, .i32⟩
  | .hbm, ⟨22, _⟩ => ⟨S4x96, .i32⟩
  | .hbm, ⟨23, _⟩ => ⟨S4x96x1x1, .i32⟩
  | .hbm, ⟨24, _⟩ => ⟨S4x96x384x384, .i32⟩
  | .hbm, ⟨25, _⟩ => ⟨S4x96x384x384, .i32⟩
  | .hbm, ⟨26, _⟩ => ⟨S_, .f32⟩
  | .hbm, ⟨27, _⟩ => ⟨S147456, .f32⟩
  | .hbm, ⟨28, _⟩ => ⟨S56623104, .i32⟩
  | .hbm, ⟨29, _⟩ => ⟨S56623104, .f32⟩
  | .hbm, ⟨30, _⟩ => ⟨S_, .i32⟩
  | .hbm, ⟨31, _⟩ => ⟨S56623104, .i32⟩
  | .hbm, ⟨32, _⟩ => ⟨S56623104, .i1⟩
  | .hbm, ⟨33, _⟩ => ⟨S_, .i32⟩
  | .hbm, ⟨34, _⟩ => ⟨S56623104, .i32⟩
  | .hbm, ⟨35, _⟩ => ⟨S56623104, .i32⟩
  | .hbm, ⟨36, _⟩ => ⟨S56623104, .i32⟩
  | .hbm, ⟨37, _⟩ => ⟨S56623104x1, .i32⟩
  | .hbm, ⟨38, _⟩ => ⟨S147456, .f32⟩
  | .hbm, ⟨39, _⟩ => ⟨S4x96x384, .f32⟩
  | .hbm, ⟨40, _⟩ => ⟨S4x1x384, .f32⟩
  | .hbm, ⟨41, _⟩ => ⟨S4x96x384, .f32⟩
  | .hbm, ⟨42, _⟩ => ⟨S4x96x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.Offsets.lean ====
/-
  Where the kernel's windows start, in plain numbers.

  The kernel computes the corner of each window it reads or writes with 32-bit words.  Here those words are
  evaluated once and for all: `bat`, `grp` and `hrow` name the batch, the channel group and the first image row
  of a chunk, and each theorem below gives one window's corner in these terms.
-/
module

public import proofs.«01_k».proof.Defs
public import proofs.«01_k».proof.Proof.Gen.KernelIdeal

@[expose] public section

namespace Cert.Proof.Offsets

open Cert.KernelIdeal Cert.KernelIdeal.Gen
open Idealize.ShloMosaic

/-- A tile's number: sixteen tiles to a SparseCore. -/
def wid (i : grid0.Coords) : ℕ := 16 * (i 0).val + (i 1).val
/-- The batch a tile works on. -/
def bat (i : grid0.Coords) : ℕ := wid i / 8
/-- The group of twelve channels a tile works on. -/
def grp (i : grid0.Coords) : ℕ := wid i % 8
/-- The first image row of a channel group's chunk `t`: each group starts at a different block of eight rows. -/
def hrow (g t : ℕ) : ℕ := 8 * ((t + 6 * g) % 48)

theorem trips1 : k0_t1_loop.trips = 294 := by decide +kernel
theorem trips2 : k0_t2_loop.trips = 24 := by decide +kernel
theorem trips3 : k0_t3_loop.trips = 192 := by decide +kernel
theorem trips4 : k0_t4_loop.trips = 192 := by decide +kernel
theorem trips5 : k0_t5_loop.trips = 288 := by decide +kernel

theorem off2_eq : ∀ (i : grid0.Coords) (a : Fin 1), k0_off2 i a = ![bat i * 384] a := by decide +kernel
theorem off40_eq : ∀ (i : grid0.Coords) (a : Fin 1), k0_off40 i a = ![wid i * 4608] a := by decide +kernel
theorem off3_eq : ∀ (i : grid0.Coords) (r : Fin 2) (a : Fin 3),
    k0_off3 i (BitVec.ofNat 32 r.val) a = ![bat i, hrow (grp i) r.val, 0] a := by decide +kernel
theorem off4_eq : ∀ (i : grid0.Coords) (r : Fin 2) (a : Fin 4),
    k0_off4 i (BitVec.ofNat 32 r.val) a = ![bat i, 12 * grp i, hrow (grp i) r.val, 0] a := by decide +kernel
theorem off5_eq : ∀ (i : grid0.Coords) (t : Fin k0_t2_loop.trips) (r : Fin 2) (a : Fin 3),
    k0_off5 i t (BitVec.ofNat 32 r.val) a = ![bat i, hrow (grp i) (2 * t.val + r.val), 0] a := by decide +kernel

theorem off6_eq : ∀ (i : grid0.Coords) (t : Fin k0_t2_loop.trips) (r : Fin 2) (a : Fin 4),
    k0_off6 i t (BitVec.ofNat 32 r.val) a = ![bat i, 12 * grp i, hrow (grp i) (2 * t.val + r.val), 0] a := by decide +kernel
theorem off20_eq : ∀ (i : grid0.Coords) (t : Fin k0_t2_loop.trips) (a : Fin 3),
    k0_off20 i t a = ![bat i, hrow (grp i) (2 * t.val + 2), 0] a := by decide +kernel
theorem off21_eq : ∀ (i : grid0.Coords) (t : Fin k0_t2_loop.trips) (a : Fin 4),
    k0_off21 i t a = ![bat i, 12 * grp i, hrow (grp i) (2 * t.val + 2), 0] a := by decide +kernel
theorem off35_eq : ∀ (i : grid0.Coords) (t : Fin k0_t2_loop.trips) (a : Fin 3),
    k0_off35 i t a = ![bat i, hrow (grp i) (2 * t.val + 3), 0] a := by decide +kernel
theorem off36_eq : ∀ (i : grid0.Coords) (t : Fin k0_t2_loop.trips) (a : Fin 4),
    k0_off36 i t a = ![bat i, 12 * grp i, hrow (grp i) (2 * t.val + 3), 0] a := by decide +kernel
theorem cond1_iff : ∀ t : Fin k0_t2_loop.trips, k0_cond1 t = 1#1 ↔ 2 * t.val + 2 < 48 := by decide +kernel
theorem cond2_iff : ∀ t : Fin k0_t2_loop.trips, k0_cond2 t = 1#1 ↔ 2 * t.val + 3 < 48 := by decide +kernel

/-- Trip `t` of the loop over a chunk's pixels: sixteen pixels of image row `t / 24` of the chunk. -/
abbrev pr (t : ℕ) : ℕ := t / 24
abbrev pc (t : ℕ) : ℕ := 16 * (t % 24)

theorem off7_eq : ∀ (t : Fin k0_t3_loop.trips) (a : Fin 3), k0_off7 t a = ![0, pr t, pc t] a := by decide +kernel
theorem off22_eq : ∀ (t : Fin k0_t4_loop.trips) (a : Fin 3), k0_off22 t a = ![1, pr t, pc t] a := by decide +kernel
theorem off8_eq : ∀ (t : Fin k0_t3_loop.trips) (a : Fin 4), k0_off8 t a = ![0, 0, pr t, pc t] a := by decide +kernel
theorem off9_eq : ∀ (t : Fin k0_t3_loop.trips) (a : Fin 4), k0_off9 t a = ![0, 1, pr t, pc t] a := by decide +kernel
theorem off10_eq : ∀ (t : Fin k0_t3_loop.trips) (a : Fin 4), k0_off10 t a = ![0, 2, pr t, pc t] a := by decide +kernel
theorem off11_eq : ∀ (t : Fin k0_t3_loop.trips) (a : Fin 4), k0_off11 t a = ![0, 3, pr t, pc t] a := by decide +kernel
theorem off12_eq : ∀ (t : Fin k0_t3_loop.trips) (a : Fin 4), k0_off12 t a = ![0, 4, pr t, pc t] a := by decide +kernel
theorem off13_eq : ∀ (t : Fin k0_t3_loop.trips) (a : Fin 4), k0_off13 t a = ![0, 5, pr t, pc t] a := by decide +kernel
theorem off14_eq : ∀ (t : Fin k0_t3_loop.trips) (a : Fin 4), k0_off14 t a = ![0, 6, pr t, pc t] a := by decide +kernel
theorem off15_eq : ∀ (t : Fin k0_t3_loop.trips) (a : Fin 4), k0_off15 t a = ![0, 7, pr t, pc t] a := by decide +kernel
theorem off16_eq : ∀ (t : Fin k0_t3_loop.trips) (a : Fin 4), k0_off16 t a = ![0, 8, pr t, pc t] a := by decide +kernel
theorem off17_eq : ∀ (t : Fin k0_t3_loop.trips) (a : Fin 4), k0_off17 t a = ![0, 9, pr t, pc t] a := by decide +kernel
theorem off18_eq : ∀ (t : Fin k0_t3_loop.trips) (a : Fin 4), k0_off18 t a = ![0, 10, pr t, pc t] a := by decide +kernel
theorem off19_eq : ∀ (t : Fin k0_t3_loop.trips) (a : Fin 4), k0_off19 t a = ![0, 11, pr t, pc t] a := by decide +kernel
theorem off23_eq : ∀ (t : Fin k0_t4_loop.trips) (a : Fin 4), k0_off23 t a = ![1, 0, pr t, pc t] a := by decide +kernel
theorem off24_eq : ∀ (t : Fin k0_t4_loop.trips) (a : Fin 4), k0_off24 t a = ![1, 1, pr t, pc t] a := by decide +kernel
theorem off25_eq : ∀ (t : Fin k0_t4_loop.trips) (a : Fin 4), k0_off25 t a = ![1, 2, pr t, pc t] a := by decide +kernel
theorem off26_eq : ∀ (t : Fin k0_t4_loop.trips) (a : Fin 4), k0_off26 t a = ![1, 3, pr t, pc t] a := by decide +kernel
theorem off27_eq : ∀ (t : Fin k0_t4_loop.trips) (a : Fin 4), k0_off27 t a = ![1, 4, pr t, pc t] a := by decide +kernel
theorem off28_eq : ∀ (t : Fin k0_t4_loop.trips) (a : Fin 4), k0_off28 t a = ![1, 5, pr t, pc t] a := by decide +kernel
theorem off29_eq : ∀ (t : Fin k0_t4_loop.trips) (a : Fin 4), k0_off29 t a = ![1, 6, pr t, pc t] a := by decide +kernel
theorem off30_eq : ∀ (t : Fin k0_t4_loop.trips) (a : Fin 4), k0_off30 t a = ![1, 7, pr t, pc t] a := by decide +kernel
theorem off31_eq : ∀ (t : Fin k0_t4_loop.trips) (a : Fin 4), k0_off31 t a = ![1, 8, pr t, pc t] a := by decide +kernel
theorem off32_eq : ∀ (t : Fin k0_t4_loop.trips) (a : Fin 4), k0_off32 t a = ![1, 9, pr t, pc t] a := by decide +kernel
theorem off33_eq : ∀ (t : Fin k0_t4_loop.trips) (a : Fin 4), k0_off33 t a = ![1, 10, pr t, pc t] a := by decide +kernel
theorem off34_eq : ∀ (t : Fin k0_t4_loop.trips) (a : Fin 4), k0_off34 t a = ![1, 11, pr t, pc t] a := by decide +kernel
theorem off37_eq : ∀ (t : Fin k0_t5_loop.trips) (a : Fin 1), k0_off37 t a = ![392 * (t.val / 24) + 16 * (t.val % 24)] a := by decide +kernel

theorem wid_lt (i : grid0.Coords) : wid i < 32 := by
  have h0 : (i 0).val < 2 := (i 0).isLt
  have h1 : (i 1).val < 16 := (i 1).isLt
  unfold wid; omega
theorem bat_lt (i : grid0.Coords) : bat i < 4 := by have := wid_lt i; unfold bat; omega
theorem grp_lt (i : grid0.Coords) : grp i < 8 := by unfold grp; omega
theorem hrow_lt (g t : ℕ) : hrow g t < 377 := by unfold hrow; omega

end Cert.Proof.Offsets

end
-- ==== Proof.Model.lean ====
/-
  What the kernel computes, as a plain function of its three inputs.

  A tile reads its pixels in one fixed order.  Pixel number `q` of that order carries an index word `wordOf … q` and,
  for each of the tile's twelve channels, a number `pixOf … q`.  `cell` is the accumulator of one label after the
  first `n` pixels: every pixel whose word is non-negative and names the label is added to it, in order.  `outOf` is the
  array the kernel leaves: the accumulator after all pixels, divided by the label's count.
-/
module

public import proofs.«01_k».proof.Proof.Offsets

@[expose] public section

noncomputable section

namespace Cert.Proof.Model

open Cert.KernelIdeal Cert.KernelIdeal.Gen
open Idealize.ShloMosaic
open Cert.Proof.Offsets

/-! ## Indices from plain numbers -/

/-- The index with the given coordinates, each brought into range by the axis' extent. -/
def ixm {s : Shape} (hs : ∀ a, 0 < s.size a) (v : Fin s.rank → ℕ) : s.Idx :=
  fun a => ⟨v a % s.size a, Nat.mod_lt _ (hs a)⟩

theorem eq_ixm {s : Shape} (hs : ∀ a, 0 < s.size a) {v : Fin s.rank → ℕ} {e : s.Idx} (h : ∀ a, (e a).val = v a) :
    e = ixm hs v :=
  funext fun a => Fin.ext (by show (e a).val = v a % s.size a; rw [← h a, Nat.mod_eq_of_lt (e a).isLt])

theorem pos_inp : ∀ a, 0 < S4x96x384x384.size a := by decide
theorem pos_idx : ∀ a, 0 < S4x384x384.size a := by decide
theorem pos_cnt : ∀ a, 0 < S1536.size a := by decide

/-! ## The accumulator of one label -/

section Cell

variable {F : FTy → Type} [FloatOps F]

/-- A word names label `l`: it is not negative and its low nine bits are `l`. -/
def Hit (w : BitVec 32) (l : ℕ) : Prop := IntOp.cmpi .sge w 0#32 = 1#1 ∧ (w &&& 511#32).toNat = l

instance (w : BitVec 32) (l : ℕ) : Decidable (Hit w l) := by unfold Hit; infer_instance

/-- The accumulator of label `l` after the first `n` pixels, from `z`. -/
def cell (z : F .f32) (w : ℕ → BitVec 32) (x : ℕ → F .f32) (l : ℕ) : ℕ → F .f32
  | 0 => z
  | n + 1 => if Hit (w n) l then FloatOps.idxAddf (cell z w x l n) (x n) else cell z w x l n

/-- A fold over the numbers below `N` keeps what every step keeps. -/
theorem foldl_keeps {β : Type} (P : ℕ → β → Prop) : ∀ (N : ℕ) (g : β → Fin N → β) (b : β), P 0 b →
    (∀ (k : Fin N) (b : β), P k.val b → P (k.val + 1) (g b k)) → P N ((List.finRange N).foldl g b)
  | 0, _, _, h0, _ => by simpa using h0
  | N + 1, g, b, h0, hs => by
    rw [List.finRange_succ_last, List.foldl_append, List.foldl_map]
    exact hs (Fin.last N) _ (foldl_keeps P N (fun b k => g b k.castSucc) b h0 fun k b h => hs k.castSucc b h)

abbrev lane (k : Fin 16) : S16.Idx := Shape.ofLane (d := ![16]) k

/-- One masked scatter of sixteen lanes takes each label's accumulator sixteen pixels further. -/
theorem storeIdx_cell (f : Vec F S384 .f32) (iv : IVec S16 32) (v : Vec F S16 .f32) (mask : IVec S16 1)
    (h : ∀ a x, ((![iv] : Fin 1 → IVec S16 32) a x).toNat < S384.size a) (z : F .f32) (w : ℕ → BitVec 32) (x : ℕ → F .f32) (n : ℕ)
    (hm : ∀ k : Fin 16, mask (lane k) = IntOp.cmpi .sge (w (n + k.val)) 0#32)
    (hi : ∀ k : Fin 16, iv (lane k) = w (n + k.val) &&& 511#32)
    (hv : ∀ k : Fin 16, v (lane k) = x (n + k.val))
    (hf : ∀ l : S384.Idx, f l = cell z w x (l 0).val n) (l : S384.Idx) :
    storeIdx f ![iv] v mask true h l = cell z w x (l 0).val (n + 16) := by
  unfold storeIdx
  refine foldl_keeps (fun k (g : Vec F S384 .f32) => ∀ l : S384.Idx, g l = cell z w x (l 0).val (n + k)) 16 _ f hf ?_ l
  intro k g hg l
  have hl : (∀ a, (l a).val = (idxAt ![iv] h (lane k) a).val) ↔ (w (n + k.val) &&& 511#32).toNat = (l 0).val := by
    constructor
    · intro H; have := H 0; rw [this]; show _ = (iv (lane k)).toNat; rw [hi]
    · intro H a
      obtain rfl : a = 0 := Fin.eq_zero a
      show _ = (iv (lane k)).toNat; rw [hi, H]
  show (if mask (lane k) = 1 then _ else g) l = _
  rw [show n + (k.val + 1) = (n + k.val) + 1 by omega, cell]
  by_cases hmk : mask (lane k) = 1
  · rw [if_pos hmk]
    by_cases hlk : (w (n + k.val) &&& 511#32).toNat = (l 0).val
    · have e : idxAt ![iv] h (lane k) = l := funext fun a => Fin.ext (hl.mpr hlk a).symm
      rw [if_pos (show Hit (w (n + k.val)) (l 0).val from ⟨by rw [← hm]; exact hmk, hlk⟩)]
      refine (if_pos (hl.mpr hlk)).trans ?_
      show FloatOps.idxAddf (g (idxAt ![iv] h (lane k))) (v (lane k)) = _
      rw [e, hg, hv]
    · rw [if_neg (show ¬ Hit (w (n + k.val)) (l 0).val from fun H => hlk H.2)]
      exact (if_neg fun H => hlk (hl.mp H)).trans (hg l)
  · rw [if_neg hmk, if_neg (show ¬ Hit (w (n + k.val)) (l 0).val from fun H => hmk (by rw [hm]; exact H.1)), hg]

end Cell

/-! ## The pixels in a tile's order, and the result -/

section Pixels

variable {F : FTy → Type} [FloatOps F]
variable (inp : S4x96x384x384.Idx → F .f32) (idx : S4x384x384.Idx → BitVec 32) (cnt : S1536.Idx → F .f32)

/-- The image row and column of pixel `q` for channel group `g`. -/
def pixH (g q : ℕ) : ℕ := hrow g (q / 3072) + q % 3072 / 384
def pixW (q : ℕ) : ℕ := q % 384

theorem pixH_lt (g q : ℕ) : pixH g q < 384 := by unfold pixH hrow; omega
theorem pixW_lt (q : ℕ) : pixW q < 384 := by unfold pixW; omega

/-- The index word of pixel `q` of batch `b`, in the order of channel group `g`. -/
def wordOf (b g q : ℕ) : BitVec 32 := idx (ixm pos_idx ![b, pixH g q, pixW q])
/-- The number at pixel `q` of channel `12 * g + j` of batch `b`. -/
def pixOf (b g j q : ℕ) : F .f32 := inp (ixm pos_inp ![b, 12 * g + j, pixH g q, pixW q])
/-- The zero the accumulators start at. -/
def zero32 : F .f32 := Scalar.ofBits .f32 0x00000000#32

/-- Label `l`'s accumulator for channel `12 * g + j` of batch `b` after `n` pixels. -/
def accOf (b g j l n : ℕ) : F .f32 := cell zero32 (wordOf idx b g) (pixOf inp b g j) l n

/-- The kernel's result: entry `e` is label `e % 384` of row `e / 384`, a row being a channel of a batch. -/
def outOf (e : S147456.Idx) : F .f32 :=
  FloatOps.divf (accOf inp idx ((e 0).val / 36864) ((e 0).val / 4608 % 8) ((e 0).val / 384 % 12) ((e 0).val % 384) 147456)
    (cnt (ixm pos_cnt ![(e 0).val / 36864 * 384 + (e 0).val % 384]))

end Pixels

end Cert.Proof.Model

end

end
-- ==== Proof.Blocks.lean ====
/-
  What one block of the kernel's arithmetic does, on arrays alone.

  `SlotI`/`SlotX` say that a slot of the two landing buffers holds a chunk of the index words and of the numbers;
  `AccMid` says where the accumulators stand in the middle of a group of sixteen pixels.  The theorems give what a load
  reads out of a slot, and what the stores do: the scatter of one channel, the clearing of the accumulators, and the
  division that leaves the results at the front of the same array.
-/
module

public import proofs.«01_k».proof.Proof.Model
public import Idealize.ShloMosaic.Lib.Pipeline.Value

@[expose] public section

noncomputable section

namespace Cert.Proof.Blocks

open Cert.KernelIdeal Cert.KernelIdeal.Gen
open Idealize.ShloMosaic
open Cert.Proof.Offsets Cert.Proof.Model

variable {F : FTy → Type} [FloatOps F]

/-! ## A tile's own buffers -/

/-- The landing buffer of the index words, two slots. -/
abbrev bI : Memref sig .scVector .vmem S2x8x384 .i32 := Memref.whole cc0_scratch0
/-- The landing buffer of the numbers, two slots. -/
abbrev bX : Memref sig .scVector .vmem S2x12x8x384 .f32 := Memref.whole cc0_scratch1
/-- The accumulators: twelve rows of 384, a row every 392. -/
abbrev bA : Memref sig .scVector .vmem S4704 .f32 := Memref.whole cc0_scratch2
/-- The counts of the tile's batch. -/
abbrev bC : Memref sig .scVector .vmem S384 .f32 := Memref.whole cc0_scratch3

section Slots

variable (inp : S4x96x384x384.Idx → F .f32) (idx : S4x384x384.Idx → BitVec 32) (b g : ℕ)

/-- Slot `s` of the index buffer holds chunk `t`. -/
def SlotI (s t : ℕ) (f : S2x8x384.Idx → BitVec 32) : Prop :=
  ∀ e : S2x8x384.Idx, (e 0).val = s → f e = wordOf idx b g (3072 * t + 384 * (e 1).val + (e 2).val)

/-- Slot `s` of the number buffer holds chunk `t`. -/
def SlotX (s t : ℕ) (f : S2x12x8x384.Idx → F .f32) : Prop :=
  ∀ e : S2x12x8x384.Idx, (e 0).val = s → f e = pixOf inp b g (e 1).val (3072 * t + 384 * (e 2).val + (e 3).val)

/-- The rows before `j` have taken the sixteen pixels from `n`, the others not yet. -/
def AccMid (n j : ℕ) (f : S4704.Idx → F .f32) : Prop :=
  ∀ e : S4704.Idx, (e 0).val % 392 < 384 →
    f e = accOf inp idx b g ((e 0).val / 392) ((e 0).val % 392) (if (e 0).val / 392 < j then n + 16 else n)

/-- All rows have taken the first `n` pixels. -/
def AccOK (n : ℕ) (f : S4704.Idx → F .f32) : Prop :=
  ∀ e : S4704.Idx, (e 0).val % 392 < 384 → f e = accOf inp idx b g ((e 0).val / 392) ((e 0).val % 392) n

theorem AccOK.mid {n : ℕ} {f : S4704.Idx → F .f32} (h : AccOK inp idx b g n f) : AccMid inp idx b g n 0 f :=
  fun e he => by rw [if_neg (Nat.not_lt_zero _)]; exact h e he

theorem AccMid.ok {n : ℕ} {f : S4704.Idx → F .f32} (h : AccMid inp idx b g n 12 f) : AccOK inp idx b g (n + 16) f :=
  fun e he => by
    have h1 : (e 0).val / 392 < 12 := by have : (e 0).val < 4704 := (e 0).isLt; omega
    have := h e he; rwa [if_pos h1] at this

/-! ## Loads of sixteen pixels -/

def at3 (k : Fin 16) : S1x1x16.Idx := fun | 0 => ⟨0, Nat.one_pos⟩ | 1 => ⟨0, Nat.one_pos⟩ | 2 => k
def at4 (k : Fin 16) : S1x1x1x16.Idx := fun | 0 => ⟨0, Nat.one_pos⟩ | 1 => ⟨0, Nat.one_pos⟩ | 2 => ⟨0, Nat.one_pos⟩ | 3 => k

theorem at3_row : ∀ k : Fin 16, (S1x1x16.rowMajor (at3 k)).val = (S16.rowMajor (lane k)).val := by decide +kernel
theorem at4_row : ∀ k : Fin 16, (S1x1x1x16.rowMajor (at4 k)).val = (S16.rowMajor (lane k)).val := by decide +kernel

variable {inp idx b g}

/-- The index words a trip loads. -/
theorem ldI_lane {s t i : ℕ} {off : Fin 3 → ℕ} {inb : ∀ a, off a + S1x1x16.size a ≤ S2x8x384.size a}
    (hoff : ∀ a, off a = ![s, pr i, pc i] a) {f : S2x8x384.Idx → BitVec 32} (hf : SlotI idx b g s t f) (k : Fin 16) :
    shapeCast S16 ((bI.view.readAt (Elt F) (Rect.unit (s := S2x8x384) off S1x1x16.size inb).toLoadRect f : Vec F S1x1x16 .i32))
      shapeCasts_S1x1x16_S16 (lane k) = wordOf idx b g (3072 * t + 16 * i + k.val) := by
  rw [shapeCast_apply _ _ (lane k) (at3 k) (at3_row k)]
  show f ((Rect.unit (s := S2x8x384) off S1x1x16.size inb).toLoadRect.idx (at3 k)) = _
  have h0 := hoff 0; have h1 := hoff 1; have h2 := hoff 2
  simp at h0 h1 h2
  have e0 : ((Rect.unit (s := S2x8x384) off S1x1x16.size inb).toLoadRect.idx (at3 k) 0).val = off 0 + 1 * 0 := rfl
  have e1 : ((Rect.unit (s := S2x8x384) off S1x1x16.size inb).toLoadRect.idx (at3 k) 1).val = off 1 + 1 * 0 := rfl
  have e2 : ((Rect.unit (s := S2x8x384) off S1x1x16.size inb).toLoadRect.idx (at3 k) 2).val = off 2 + 1 * k.val := rfl
  rw [hf _ (by rw [e0, h0]; rfl), e1, e2, h1, h2]
  congr 1; unfold pr pc; omega

/-- The numbers a trip loads for channel `j`. -/
theorem ldX_lane {s t i j : ℕ} {off : Fin 4 → ℕ} {inb : ∀ a, off a + S1x1x1x16.size a ≤ S2x12x8x384.size a}
    (hoff : ∀ a, off a = ![s, j, pr i, pc i] a) {f : S2x12x8x384.Idx → F .f32} (hf : SlotX inp b g s t f) (k : Fin 16) :
    shapeCast S16 ((bX.view.readAt (Elt F) (Rect.unit (s := S2x12x8x384) off S1x1x1x16.size inb).toLoadRect f : Vec F S1x1x1x16 .f32))
      shapeCasts_S1x1x1x16_S16 (lane k) = pixOf inp b g j (3072 * t + 16 * i + k.val) := by
  rw [shapeCast_apply _ _ (lane k) (at4 k) (at4_row k)]
  show f ((Rect.unit (s := S2x12x8x384) off S1x1x1x16.size inb).toLoadRect.idx (at4 k)) = _
  have h0 := hoff 0; have h1 := hoff 1; have h2 := hoff 2; have h3 := hoff 3
  simp at h0 h1 h2 h3
  have e0 : ((Rect.unit (s := S2x12x8x384) off S1x1x1x16.size inb).toLoadRect.idx (at4 k) 0).val = off 0 + 1 * 0 := rfl
  have e1 : ((Rect.unit (s := S2x12x8x384) off S1x1x1x16.size inb).toLoadRect.idx (at4 k) 1).val = off 1 + 1 * 0 := rfl
  have e2 : ((Rect.unit (s := S2x12x8x384) off S1x1x1x16.size inb).toLoadRect.idx (at4 k) 2).val = off 2 + 1 * 0 := rfl
  have e3 : ((Rect.unit (s := S2x12x8x384) off S1x1x1x16.size inb).toLoadRect.idx (at4 k) 3).val = off 3 + 1 * k.val := rfl
  rw [hf _ (by rw [e0, h0]; rfl), e1, e2, e3, h1, h2, h3]
  rw [show j + 1 * 0 = j by omega]
  congr 1; unfold pr pc; omega

/-! ## The scatter of one channel -/

/-- Row `j` of the accumulators, as the scatter's target. -/
abbrev rowA (o : Fin 1 → ℕ) (inb : ∀ a, o a + S384.size a ≤ S4704.size a) : Memref sig .scVector .vmem S384 .f32 :=
  bA.slice (Rect.unit (s := S4704) o S384.size inb) (fun _ => rfl)

theorem emb_rowA (o : Fin 1 → ℕ) (inb : ∀ a, o a + S384.size a ≤ S4704.size a) (l : S384.Idx) :
    ((((rowA o inb).access (Rect.whole S384)).emb l : S4704.Idx) 0).val = o 0 + (l 0).val := by
  show o 0 + 1 * (0 + 1 * (l 0).val) = _; omega

theorem accStore {n j : ℕ} {o : Fin 1 → ℕ} {inb : ∀ a, o a + S384.size a ≤ S4704.size a} (ho : o 0 = 392 * j)
    {f : S4704.Idx → F .f32} (hf : AccMid inp idx b g n j f) (iv : IVec S16 32) (v : Vec F S16 .f32) (mask : IVec S16 1)
    (h : ∀ a x, ((![iv] : Fin 1 → IVec S16 32) a x).toNat < S384.size a)
    (hm : ∀ k : Fin 16, mask (lane k) = IntOp.cmpi .sge (wordOf idx b g (n + k.val)) 0#32)
    (hi : ∀ k : Fin 16, iv (lane k) = wordOf idx b g (n + k.val) &&& 511#32)
    (hv : ∀ k : Fin 16, v (lane k) = pixOf inp b g j (n + k.val)) :
    AccMid inp idx b g n (j + 1) (((rowA o inb).access (Rect.whole S384)).write (Elt F) f
      (storeIdx (((rowA o inb).access (Rect.whole S384)).read (Elt F) f) ![iv] v mask true h) Finset.univ) := by
  intro e he
  by_cases hin : (e 0).val / 392 = j
  · have hl : (e 0).val - 392 * j < 384 := by omega
    let l : S384.Idx := fun a => ⟨(e 0).val - 392 * j, by obtain rfl : a = 0 := Fin.eq_zero a; exact hl⟩
    have hel : e = (((rowA o inb).access (Rect.whole S384)).emb l : S4704.Idx) := by
      funext a
      obtain rfl : a = 0 := Fin.eq_zero a
      apply Fin.ext
      rw [emb_rowA, ho]
      show _ = 392 * j + ((e 0).val - 392 * j)
      omega
    rw [if_pos (by omega)]
    have hw := View.write_emb_of_mem (v := (rowA o inb).access (Rect.whole S384)) (Val := Elt F) f
      (storeIdx (((rowA o inb).access (Rect.whole S384)).read (Elt F) f) ![iv] v mask true h) (Finset.mem_univ l)
    rw [hel]
    refine hw.trans ?_
    rw [← hel]
    refine (storeIdx_cell _ iv v mask h zero32 (wordOf idx b g) (pixOf inp b g j) n hm hi hv ?_ l).trans ?_
    · intro l'
      have hl' : (l' 0).val < 384 := (l' 0).isLt
      have hq := emb_rowA o inb l'
      rw [ho] at hq
      refine (hf (((rowA o inb).access (Rect.whole S384)).emb l') (by rw [hq]; omega)).trans ?_
      rw [hq, show (392 * j + (l' 0).val) / 392 = j by omega, show (392 * j + (l' 0).val) % 392 = (l' 0).val by omega,
        if_neg (Nat.lt_irrefl _)]
      rfl
    · show _ = accOf inp idx b g ((e 0).val / 392) ((e 0).val % 392) (n + 16)
      unfold accOf
      rw [hin, show (l 0).val = (e 0).val % 392 from by show (e 0).val - 392 * j = _; omega]
  · have hne : e ∉ ((rowA o inb).access (Rect.whole S384)).setOn Finset.univ := by
      intro hmem
      obtain ⟨l, -, hl⟩ := Finset.mem_map.mp hmem
      have hq := emb_rowA o inb l
      have hl' : (l 0).val < 384 := (l 0).isLt
      rw [hl, ho] at hq
      omega
    refine (View.write_of_not_mem (v := (rowA o inb).access (Rect.whole S384)) (Val := Elt F) f _ Finset.univ hne).trans ?_
    rw [hf e he]
    congr 1
    by_cases hlt : (e 0).val / 392 < j
    · rw [if_pos hlt, if_pos (by omega)]
    · rw [if_neg hlt, if_neg (by omega)]

end Slots

end Cert.Proof.Blocks

end

end
-- ==== Proof.Moves.lean ====
/-
  What the kernel's copies deliver, and the two loops beside the scatter: clearing the accumulators and dividing by the
  counts.  Statements on arrays alone.
-/
module

public import proofs.«01_k».proof.Proof.Blocks
public import proofs.«01_k».proof.Proof.Gen.KernelIdeal.Skeleton

@[expose] public section

noncomputable section

namespace Cert.Proof.Moves

open Cert.KernelIdeal Cert.KernelIdeal.Gen
open Idealize.ShloMosaic
open Cert.Proof.Offsets Cert.Proof.Model Cert.Proof.Blocks

variable {F : FTy → Type} [FloatOps F]

/-! ## The arrays in the chip's memory, as a tile names them -/

abbrev hX : Memref sig .scVector .hbm S4x96x384x384 .f32 := Memref.whole main_arg0_scv
abbrev hI : Memref sig .scVector .hbm S4x384x384 .i32 := Memref.whole main_v4_scv
abbrev hC : Memref sig .scVector .hbm S1536 .f32 := Memref.whole main_v5_scv
abbrev hO : Memref sig .scVector .hbm S147456 .f32 := Memref.whole main_v6_scv

/-- A chunk of the index words, and the slot it lands in. -/
abbrev srcI (o : Fin 3 → ℕ) (inb : ∀ a, o a + S1x8x384.size a ≤ S4x384x384.size a) : Memref sig .scVector .hbm S8x384 .i32 :=
  (hI.slice (Rect.unit (s := S4x384x384) o S1x8x384.size inb) (fun _ => rfl)).squeeze S8x384 squeezes_S1x8x384_S8x384
abbrev dstI (d : Fin 3 → ℕ) (inb : ∀ a, d a + S1x8x384.size a ≤ S2x8x384.size a) : Memref sig .scVector .vmem S8x384 .i32 :=
  (bI.slice (Rect.unit (s := S2x8x384) d S1x8x384.size inb) (fun _ => rfl)).squeeze S8x384 squeezes_S1x8x384_S8x384
/-- A chunk of the numbers, and the slot it lands in. -/
abbrev srcX (o : Fin 4 → ℕ) (inb : ∀ a, o a + S1x12x8x384.size a ≤ S4x96x384x384.size a) : Memref sig .scVector .hbm S12x8x384 .f32 :=
  (hX.slice (Rect.unit (s := S4x96x384x384) o S1x12x8x384.size inb) (fun _ => rfl)).squeeze S12x8x384 squeezes_S1x12x8x384_S12x8x384
abbrev dstX (d : Fin 4 → ℕ) (inb : ∀ a, d a + S1x12x8x384.size a ≤ S2x12x8x384.size a) : Memref sig .scVector .vmem S12x8x384 .f32 :=
  (bX.slice (Rect.unit (s := S2x12x8x384) d S1x12x8x384.size inb) (fun _ => rfl)).squeeze S12x8x384 squeezes_S1x12x8x384_S12x8x384
/-- A batch's counts. -/
abbrev srcC (o : Fin 1 → ℕ) (inb : ∀ a, o a + S384.size a ≤ S1536.size a) : Memref sig .scVector .hbm S384 .f32 :=
  hC.slice (Rect.unit (s := S1536) o S384.size inb) (fun _ => rfl)
/-- The tile's piece of the result, and the accumulators' front it is copied from. -/
abbrev dstO (o : Fin 1 → ℕ) (inb : ∀ a, o a + S4608.size a ≤ S147456.size a) : Memref sig .scVector .hbm S4608 .f32 :=
  hO.slice (Rect.unit (s := S147456) o S4608.size inb) (fun _ => rfl)
abbrev srcO (o : Fin 1 → ℕ) (inb : ∀ a, o a + S4608.size a ≤ S4704.size a) : Memref sig .scVector .vmem S4608 .f32 :=
  bA.slice (Rect.unit (s := S4704) o S4608.size inb) (fun _ => rfl)

/-- The elements of a landing buffer's slot `s`. -/
def setI (s : ℕ) : Finset S2x8x384.Idx := Finset.univ.filter fun e => (e 0).val = s
def setX (s : ℕ) : Finset S2x12x8x384.Idx := Finset.univ.filter fun e => (e 0).val = s

theorem set_dstI {s : ℕ} {d : Fin 3 → ℕ} {inb : ∀ a, d a + S1x8x384.size a ≤ S2x8x384.size a} (hd : ∀ a, d a = ![s, 0, 0] a) :
    (dstI d inb).view.set = setI s := by
  show ((bI.view.slice (Rect.unit (s := S2x8x384) d S1x8x384.size inb)).reshape S8x384 squeezes_S1x8x384_S8x384.numel_eq).set = _
  rw [View.set_reshape, View.set_slice]
  show (Rect.unit (s := S2x8x384) d S1x8x384.size inb).set.map (Function.Embedding.refl _) = _
  rw [Finset.map_refl]
  ext e
  rw [Rect.mem_set_unit, setI, Finset.mem_filter]
  have h0 := hd 0; have h1 := hd 1; have h2 := hd 2
  simp at h0 h1 h2
  constructor
  · intro h
    have := h 0
    refine ⟨Finset.mem_univ _, ?_⟩
    have hs : S1x8x384.size 0 = 1 := rfl
    rw [hs] at this; omega
  · rintro ⟨-, he⟩ a
    have b1 : (e 1).val < 8 := (e 1).isLt
    have b2 : (e 2).val < 384 := (e 2).isLt
    match a with
    | 0 => show d 0 ≤ (e 0).val ∧ (e 0).val < d 0 + 1; omega
    | 1 => show d 1 ≤ (e 1).val ∧ (e 1).val < d 1 + 8; omega
    | 2 => show d 2 ≤ (e 2).val ∧ (e 2).val < d 2 + 384; omega

theorem set_dstX {s : ℕ} {d : Fin 4 → ℕ} {inb : ∀ a, d a + S1x12x8x384.size a ≤ S2x12x8x384.size a} (hd : ∀ a, d a = ![s, 0, 0, 0] a) :
    (dstX d inb).view.set = setX s := by
  show ((bX.view.slice (Rect.unit (s := S2x12x8x384) d S1x12x8x384.size inb)).reshape S12x8x384 squeezes_S1x12x8x384_S12x8x384.numel_eq).set = _
  rw [View.set_reshape, View.set_slice]
  show (Rect.unit (s := S2x12x8x384) d S1x12x8x384.size inb).set.map (Function.Embedding.refl _) = _
  rw [Finset.map_refl]
  ext e
  rw [Rect.mem_set_unit, setX, Finset.mem_filter]
  have h0 := hd 0; have h1 := hd 1; have h2 := hd 2; have h3 := hd 3
  simp at h0 h1 h2 h3
  constructor
  · intro h
    have := h 0
    refine ⟨Finset.mem_univ _, ?_⟩
    have hs : S1x12x8x384.size 0 = 1 := rfl
    rw [hs] at this; omega
  · rintro ⟨-, he⟩ a
    have b1 : (e 1).val < 12 := (e 1).isLt
    have b2 : (e 2).val < 8 := (e 2).isLt
    have b3 : (e 3).val < 384 := (e 3).isLt
    match a with
    | 0 => show d 0 ≤ (e 0).val ∧ (e 0).val < d 0 + 1; omega
    | 1 => show d 1 ≤ (e 1).val ∧ (e 1).val < d 1 + 12; omega
    | 2 => show d 2 ≤ (e 2).val ∧ (e 2).val < d 2 + 8; omega
    | 3 => show d 3 ≤ (e 3).val ∧ (e 3).val < d 3 + 384; omega

section Values

variable (inp : S4x96x384x384.Idx → F .f32) (idx : S4x384x384.Idx → BitVec 32) (cnt : S1536.Idx → F .f32) (b g : ℕ)

variable {idx b g} in
/-- A landed chunk of the index words is that chunk. -/
theorem landI {s t : ℕ} {o : Fin 3 → ℕ} {inb : ∀ a, o a + S1x8x384.size a ≤ S4x384x384.size a}
    {d : Fin 3 → ℕ} {inbd : ∀ a, d a + S1x8x384.size a ≤ S2x8x384.size a}
    (ho : ∀ a, o a = ![b, hrow g t, 0] a) (hd : ∀ a, d a = ![s, 0, 0] a) (fd : S2x8x384.Idx → BitVec 32) :
    SlotI idx b g s t ((dstI d inbd).view.write (Elt F) fd ((srcI o inb).view.read (Elt F) idx) Finset.univ) := by
  intro e he
  have h0 := hd 0; have h1 := hd 1; have h2 := hd 2
  simp at h0 h1 h2
  have p0 := ho 0; have p1 := ho 1; have p2 := ho 2
  simp at p0 p1 p2
  have b1 : (e 1).val < 8 := (e 1).isLt
  have b2 : (e 2).val < 384 := (e 2).isLt
  let z : S1x8x384.Idx := fun | 0 => ⟨0, Nat.one_pos⟩ | 1 => ⟨(e 1).val, b1⟩ | 2 => ⟨(e 2).val, b2⟩
  let y : S8x384.Idx := (Shape.reshapeEquiv squeezes_S1x8x384_S8x384.numel_eq).symm z
  have hy : Shape.reshapeEquiv squeezes_S1x8x384_S8x384.numel_eq y = z := Equiv.apply_symm_apply _ _
  have hey : (dstI d inbd).view.emb y = e := by
    show (Rect.unit (s := S2x8x384) d S1x8x384.size inbd).emb (Shape.reshapeEquiv squeezes_S1x8x384_S8x384.numel_eq y) = e
    rw [hy]
    funext a
    apply Fin.ext
    match a with
    | 0 => show d 0 + 1 * 0 = (e 0).val; omega
    | 1 => show d 1 + 1 * (e 1).val = (e 1).val; omega
    | 2 => show d 2 + 1 * (e 2).val = (e 2).val; omega
  have hw := View.write_emb_of_mem (v := (dstI d inbd).view) (Val := Elt F) fd
      ((srcI o inb).view.read (Elt F) idx) (Finset.mem_univ y)
  rw [hey] at hw
  refine hw.trans ?_
  show idx ((Rect.unit (s := S4x384x384) o S1x8x384.size inb).emb (Shape.reshapeEquiv squeezes_S1x8x384_S8x384.numel_eq y)) = _
  rw [hy, wordOf]
  congr 1
  refine eq_ixm pos_idx fun a => ?_
  match a with
  | 0 => show o 0 + 1 * 0 = b; omega
  | 1 =>
    show o 1 + 1 * (e 1).val = pixH g (3072 * t + 384 * (e 1).val + (e 2).val)
    unfold pixH
    rw [p1, show (3072 * t + 384 * (e 1).val + (e 2).val) / 3072 = t by omega]
    omega
  | 2 => show o 2 + 1 * (e 2).val = pixW (3072 * t + 384 * (e 1).val + (e 2).val); unfold pixW; omega

variable {inp b g} in
/-- A landed chunk of the numbers is that chunk. -/
theorem landX {s t : ℕ} {o : Fin 4 → ℕ} {inb : ∀ a, o a + S1x12x8x384.size a ≤ S4x96x384x384.size a}
    {d : Fin 4 → ℕ} {inbd : ∀ a, d a + S1x12x8x384.size a ≤ S2x12x8x384.size a}
    (ho : ∀ a, o a = ![b, 12 * g, hrow g t, 0] a) (hd : ∀ a, d a = ![s, 0, 0, 0] a) (fd : S2x12x8x384.Idx → F .f32) :
    SlotX inp b g s t ((dstX d inbd).view.write (Elt F) fd ((srcX o inb).view.read (Elt F) inp) Finset.univ) := by
  intro e he
  have h0 := hd 0; have h1 := hd 1; have h2 := hd 2; have h3 := hd 3
  simp at h0 h1 h2 h3
  have p0 := ho 0; have p1 := ho 1; have p2 := ho 2; have p3 := ho 3
  simp at p0 p1 p2 p3
  have b1 : (e 1).val < 12 := (e 1).isLt
  have b2 : (e 2).val < 8 := (e 2).isLt
  have b3 : (e 3).val < 384 := (e 3).isLt
  let z : S1x12x8x384.Idx := fun | 0 => ⟨0, Nat.one_pos⟩ | 1 => ⟨(e 1).val, b1⟩ | 2 => ⟨(e 2).val, b2⟩ | 3 => ⟨(e 3).val, b3⟩
  let y : S12x8x384.Idx := (Shape.reshapeEquiv squeezes_S1x12x8x384_S12x8x384.numel_eq).symm z
  have hy : Shape.reshapeEquiv squeezes_S1x12x8x384_S12x8x384.numel_eq y = z := Equiv.apply_symm_apply _ _
  have hey : (dstX d inbd).view.emb y = e := by
    show (Rect.unit (s := S2x12x8x384) d S1x12x8x384.size inbd).emb (Shape.reshapeEquiv squeezes_S1x12x8x384_S12x8x384.numel_eq y) = e
    rw [hy]
    funext a
    apply Fin.ext
    match a with
    | 0 => show d 0 + 1 * 0 = (e 0).val; omega
    | 1 => show d 1 + 1 * (e 1).val = (e 1).val; omega
    | 2 => show d 2 + 1 * (e 2).val = (e 2).val; omega
    | 3 => show d 3 + 1 * (e 3).val = (e 3).val; omega
  have hw := View.write_emb_of_mem (v := (dstX d inbd).view) (Val := Elt F) fd
      ((srcX o inb).view.read (Elt F) inp) (Finset.mem_univ y)
  rw [hey] at hw
  refine hw.trans ?_
  show inp ((Rect.unit (s := S4x96x384x384) o S1x12x8x384.size inb).emb (Shape.reshapeEquiv squeezes_S1x12x8x384_S12x8x384.numel_eq y)) = _
  rw [hy, pixOf]
  congr 1
  refine eq_ixm pos_inp fun a => ?_
  match a with
  | 0 => show o 0 + 1 * 0 = b; omega
  | 1 => show o 1 + 1 * (e 1).val = 12 * g + (e 1).val; omega
  | 2 =>
    show o 2 + 1 * (e 2).val = pixH g (3072 * t + 384 * (e 2).val + (e 3).val)
    unfold pixH
    rw [p2, show (3072 * t + 384 * (e 2).val + (e 3).val) / 3072 = t by omega]
    omega
  | 3 => show o 3 + 1 * (e 3).val = pixW (3072 * t + 384 * (e 2).val + (e 3).val); unfold pixW; omega

/-- The count buffer holds the batch's counts. -/
def CntOK (f : S384.Idx → F .f32) : Prop := ∀ e : S384.Idx, f e = cnt (ixm pos_cnt ![b * 384 + (e 0).val])

variable {cnt b} in
theorem landC {o : Fin 1 → ℕ} {inb : ∀ a, o a + S384.size a ≤ S1536.size a} (ho : ∀ a, o a = ![b * 384] a) (fd : S384.Idx → F .f32) :
    CntOK cnt b (bC.view.write (Elt F) fd ((srcC o inb).view.read (Elt F) cnt) Finset.univ) := by
  intro e
  have hw := View.write_emb_of_mem (v := bC.view) (Val := Elt F) fd ((srcC o inb).view.read (Elt F) cnt) (Finset.mem_univ e)
  refine hw.trans ?_
  show cnt ((Rect.unit (s := S1536) o S384.size inb).emb e) = _
  congr 1
  refine eq_ixm pos_cnt fun a => ?_
  obtain rfl : a = 0 := Fin.eq_zero a
  have := ho 0
  show o 0 + 1 * (e 0).val = b * 384 + (e 0).val
  simp at this; omega

/-! ## Clearing the accumulators -/

def ZeroTo (n : ℕ) (f : S4704.Idx → F .f32) : Prop := ∀ e : S4704.Idx, (e 0).val < 16 * n → f e = zero32

/-- A store of sixteen values: inside the window the values, outside what was there. -/
theorem store16 {o : Fin 1 → ℕ} {inb : ∀ a, o a + S16.size a ≤ S4704.size a} (f : S4704.Idx → F .f32) (w : Vec F S16 .f32) (e : S4704.Idx) :
    ((bA.access (Rect.unit (s := S4704) o S16.size inb)).write (Elt F) f w Finset.univ : S4704.Idx → F .f32) e
      = if h : o 0 ≤ (e 0).val ∧ (e 0).val < o 0 + 16 then w (lane ⟨(e 0).val - o 0, by omega⟩) else f e := by
  split
  · next h =>
    have hey : (bA.access (Rect.unit (s := S4704) o S16.size inb)).emb (lane ⟨(e 0).val - o 0, by omega⟩) = e := by
      funext a
      obtain rfl : a = 0 := Fin.eq_zero a
      apply Fin.ext
      show o 0 + 1 * ((e 0).val - o 0) = _
      omega
    have hw := View.write_emb_of_mem (v := bA.access (Rect.unit (s := S4704) o S16.size inb)) (Val := Elt F) f w
      (Finset.mem_univ (lane ⟨(e 0).val - o 0, by omega⟩))
    rw [hey] at hw
    exact hw
  · next h =>
    refine View.write_of_not_mem (v := bA.access (Rect.unit (s := S4704) o S16.size inb)) (Val := Elt F) f w Finset.univ ?_
    intro hmem
    obtain ⟨l, -, hl⟩ := Finset.mem_map.mp hmem
    have hl' : (l 0).val < 16 := (l 0).isLt
    have hq : (((bA.access (Rect.unit (s := S4704) o S16.size inb)).emb l : S4704.Idx) 0).val = o 0 + 1 * (l 0).val := rfl
    rw [hl] at hq
    omega

theorem zeroStore {n : ℕ} {o : Fin 1 → ℕ} {inb : ∀ a, o a + S16.size a ≤ S4704.size a} (ho : o 0 = 16 * n) {f : S4704.Idx → F .f32}
    (hf : ZeroTo n f) : ZeroTo (n + 1) ((bA.access (Rect.unit (s := S4704) o S16.size inb)).write (Elt F) f (k0_pay31 (F := F)) Finset.univ) := by
  intro e he
  rw [store16]
  split
  · rfl
  · exact hf e (by omega)

variable {inp idx b g} in
theorem ZeroTo.acc {f : S4704.Idx → F .f32} (hf : ZeroTo 294 f) : AccOK inp idx b g 0 f :=
  fun e _ => hf e (by have : (e 0).val < 4704 := (e 0).isLt; omega)

/-! ## Dividing by the counts -/

/-- The tile's result at place `m` of its 4608. -/
def resOf (m : ℕ) : F .f32 :=
  FloatOps.divf (accOf inp idx b g (m / 384) (m % 384) 147456) (cnt (ixm pos_cnt ![b * 384 + m % 384]))

/-- After `n` groups of sixteen the front holds results; the accumulators not yet read stand untouched. -/
def FinTo (n : ℕ) (f : S4704.Idx → F .f32) : Prop :=
  (∀ e : S4704.Idx, (e 0).val < 16 * n → f e = resOf inp idx cnt b g (e 0).val)
  ∧ ∀ e : S4704.Idx, 16 * n ≤ (e 0).val → (e 0).val % 392 < 384 → f e = accOf inp idx b g ((e 0).val / 392) ((e 0).val % 392) 147456

variable {inp idx cnt b g}

theorem AccOK.fin {f : S4704.Idx → F .f32} (h : AccOK inp idx b g 147456 f) : FinTo inp idx cnt b g 0 f :=
  ⟨fun e he => absurd he (by omega), fun e _ he => h e he⟩

theorem finStore {n : ℕ} (hn : n < 288) {oA oC oS : Fin 1 → ℕ} {inbA : ∀ a, oA a + S16.size a ≤ S4704.size a}
    {inbC : ∀ a, oC a + S16.size a ≤ S384.size a} {inbS : ∀ a, oS a + S16.size a ≤ S4704.size a}
    (hA : oA 0 = 392 * (n / 24) + 16 * (n % 24)) (hC : oC 0 = 16 * (n % 24)) (hS : oS 0 = 16 * n)
    {f : S4704.Idx → F .f32} (hf : FinTo inp idx cnt b g n f) {fc : S384.Idx → F .f32} (hc : CntOK cnt b fc) :
    FinTo inp idx cnt b g (n + 1) ((bA.access (Rect.unit (s := S4704) oS S16.size inbS)).write (Elt F) f
      (k0_pay32 (bA.view.readAt (Elt F) (Rect.unit (s := S4704) oA S16.size inbA).toLoadRect f)
        (bC.view.readAt (Elt F) (Rect.unit (s := S384) oC S16.size inbC).toLoadRect fc)) Finset.univ) := by
  refine ⟨fun e he => ?_, fun e he hr => ?_⟩
  · rw [store16]
    split
    · next h =>
      show FloatOps.divf (f ((Rect.unit (s := S4704) oA S16.size inbA).toLoadRect.idx (lane ⟨(e 0).val - oS 0, _⟩)))
        (fc ((Rect.unit (s := S384) oC S16.size inbC).toLoadRect.idx (lane ⟨(e 0).val - oS 0, _⟩))) = _
      have ea : ((Rect.unit (s := S4704) oA S16.size inbA).toLoadRect.idx (lane ⟨(e 0).val - oS 0, by omega⟩) 0).val
          = oA 0 + 1 * ((e 0).val - oS 0) := rfl
      have ec : ((Rect.unit (s := S384) oC S16.size inbC).toLoadRect.idx (lane ⟨(e 0).val - oS 0, by omega⟩) 0).val
          = oC 0 + 1 * ((e 0).val - oS 0) := rfl
      rw [hf.2 _ (by rw [ea]; omega) (by rw [ea]; omega), hc, ea, ec, resOf]
      rw [show (oA 0 + 1 * ((e 0).val - oS 0)) / 392 = (e 0).val / 384 by omega,
        show (oA 0 + 1 * ((e 0).val - oS 0)) % 392 = (e 0).val % 384 by omega,
        show oC 0 + 1 * ((e 0).val - oS 0) = (e 0).val % 384 by omega]
    · exact hf.1 e (by omega)
  · rw [store16]
    split
    · omega
    · exact hf.2 e (by omega) hr

/-- The tile's piece of the result array, from the accumulators' front. -/
theorem landO {w : ℕ} {o : Fin 1 → ℕ} {inb : ∀ a, o a + S4608.size a ≤ S147456.size a} {o' : Fin 1 → ℕ}
    {inb' : ∀ a, o' a + S4608.size a ≤ S4704.size a} (hw : w < 32) (ho : ∀ a, o a = ![w * 4608] a) (ho' : o' 0 = 0) {f : S4704.Idx → F .f32}
    (hf : FinTo inp idx cnt (w / 8) (w % 8) 288 f) (fd : S147456.Idx → F .f32) (e : S147456.Idx) (he : e ∈ (dstO o inb).view.set) :
    ((dstO o inb).view.write (Elt F) fd ((srcO o' inb').view.read (Elt F) f) Finset.univ : S147456.Idx → F .f32) e = outOf inp idx cnt e := by
  obtain ⟨y, -, hy⟩ := Finset.mem_map.mp he
  have hyl : (y 0).val < 4608 := (y 0).isLt
  have h0 := ho 0
  simp at h0
  have hyv : (((dstO o inb).view.emb y : S147456.Idx) 0).val = o 0 + 1 * (y 0).val := rfl
  rw [hy] at hyv
  have hwr := View.write_emb_of_mem (v := (dstO o inb).view) (Val := Elt F) fd ((srcO o' inb').view.read (Elt F) f) (Finset.mem_univ y)
  rw [hy] at hwr
  refine hwr.trans ?_
  show f ((Rect.unit (s := S4704) o' S4608.size inb').emb y) = _
  have ev : ((Rect.unit (s := S4704) o' S4608.size inb').emb y 0).val = o' 0 + 1 * (y 0).val := rfl
  rw [hf.1 _ (by rw [ev]; omega), ev, resOf, outOf, hyv, ho', h0]
  rw [show (w * 4608 + 1 * (y 0).val) / 36864 = w / 8 by omega, show (w * 4608 + 1 * (y 0).val) / 4608 % 8 = w % 8 by omega,
    show (w * 4608 + 1 * (y 0).val) / 384 % 12 = (0 + 1 * (y 0).val) / 384 by omega,
    show (w * 4608 + 1 * (y 0).val) % 384 = (0 + 1 * (y 0).val) % 384 by omega]

end Values

end Cert.Proof.Moves

end

end
-- ==== Proof.Setup.lean ====
/-
  The program as the launch theorem reads it, the resources a tile works with, and the memory steps of its loops:
  a load out of a landed slot, the scatter into one accumulator row.
-/
module

public import proofs.«01_k».proof.Proof.Moves
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.MixedBatch
public import Idealize.ShloMosaic.Lib.Tactic

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## A tile -/

abbrev cV (L : grid0.Coords) : Fin τ.nSC := (L 0).castLE hcore0
abbrev jV (L : grid0.Coords) : Fin τ.nSub := (L 1).castLE hsub0
/-- The thread of the tile at coordinates `L`. -/
abbrev thr (d : Dev nD) (L : grid0.Coords) : Thread nD τ := V d (cV L) (jV L)

variable [FloatOps F]

/-- A piece of the tile's program run under the kernel's definitions. -/
abbrev WP {α : Type} (d : Dev nD) (L : grid0.Coords) (p : Prog (TpuEff nD τ sig (Elt F) Λ₀ (thr d L).2) α) (Q : α → sProp 𝕄) : sProp 𝕄 :=
  wp frame (wpE (defs₀ (F := F)) 𝒱₀ (thr d L) none) Set.univ p Q

theorem ret_WP {α : Type} {d : Dev nD} {L : grid0.Coords} (a : α) {Q : α → sProp 𝕄} : Q a ⊢ WP d L (.ret a) Q := by
  unfold WP
  rw [wp_ret]
  iintro H; imodintro; iexact H

/-- A part of the program in front of the rest, by what the part was proved to do. -/
theorem part_WP {α β : Type} {d : Dev nD} {L : grid0.Coords} {p : Prog (TpuEff nD τ sig (Elt F) Λ₀ (thr d L).2) α} {P : sProp 𝕄} {Q' : α → sProp 𝕄}
    (h : P ⊢ WP d L p Q') {k : α → Prog (TpuEff nD τ sig (Elt F) Λ₀ (thr d L).2) β} {Q : β → sProp 𝕄} :
    P ⊢ iprop((∀ a, Q' a -∗ WP d L (k a) Q) -∗ WP d L (p >>= k) Q) := by
  unfold WP at h ⊢
  rw [wp_bind]
  iintro H Hk
  iapply wp_wand $$ [H]
  · iapply h; iexact H
  · iexact Hk

section Steps

variable (d : Dev nD) (L : grid0.Coords)
variable (inp : S4x96x384x384.Idx → F .f32) (idx : S4x384x384.Idx → BitVec 32) (b g : ℕ)

/-- Slot `s` of the index buffer, holding chunk `t`. -/
def pI (s t : ℕ) : sProp 𝕄 := iprop(∃ f : S2x8x384.Idx → BitVec 32, ⌜SlotI idx b g s t f⌝ ∗ bI.view.loc (thr d L) ↦[setI s]{fullShare} f)
/-- Slot `s` of the number buffer, holding chunk `t`. -/
def pX (s t : ℕ) : sProp 𝕄 := iprop(∃ f : S2x12x8x384.Idx → F .f32, ⌜SlotX inp b g s t f⌝ ∗ bX.view.loc (thr d L) ↦[setX s]{fullShare} f)
/-- The accumulators in the middle of a group of sixteen. -/
def pM (n j : ℕ) : sProp 𝕄 := iprop(∃ f : S4704.Idx → F .f32, ⌜AccMid inp idx b g n j f⌝ ∗ bA.view.loc (thr d L) ↦{fullShare} f)
/-- The accumulators after the first `n` pixels. -/
def pA (n : ℕ) : sProp 𝕄 := iprop(∃ f : S4704.Idx → F .f32, ⌜AccOK inp idx b g n f⌝ ∗ bA.view.loc (thr d L) ↦{fullShare} f)

variable {d L inp idx b g}

theorem sub_setI {s i : ℕ} {off : Fin 3 → ℕ} {inb : ∀ a, off a + S1x1x16.size a ≤ S2x8x384.size a} (hoff : ∀ a, off a = ![s, pr i, pc i] a) :
    bI.view.setOn (Rect.unit (s := S2x8x384) off S1x1x16.size inb).toLoadRect.set ⊆ setI s := by
  intro e he
  obtain ⟨x, hx, rfl⟩ := Finset.mem_map.mp he
  have h := (Rect.mem_set_unit (s := S2x8x384) (off := off) (size := S1x1x16.size) (inb := inb)).mp hx 0
  have h0 := hoff 0
  simp at h0
  refine Finset.mem_filter.mpr ⟨Finset.mem_univ _, ?_⟩
  show (x 0).val = s
  have hs : S1x1x16.size 0 = 1 := rfl
  rw [hs] at h; omega

theorem sub_setX {s j i : ℕ} {off : Fin 4 → ℕ} {inb : ∀ a, off a + S1x1x1x16.size a ≤ S2x12x8x384.size a} (hoff : ∀ a, off a = ![s, j, pr i, pc i] a) :
    bX.view.setOn (Rect.unit (s := S2x12x8x384) off S1x1x1x16.size inb).toLoadRect.set ⊆ setX s := by
  intro e he
  obtain ⟨x, hx, rfl⟩ := Finset.mem_map.mp he
  have h := (Rect.mem_set_unit (s := S2x12x8x384) (off := off) (size := S1x1x1x16.size) (inb := inb)).mp hx 0
  have h0 := hoff 0
  simp at h0
  refine Finset.mem_filter.mpr ⟨Finset.mem_univ _, ?_⟩
  show (x 0).val = s
  have hs : S1x1x1x16.size 0 = 1 := rfl
  rw [hs] at h; omega

/-- A load of sixteen index words out of a landed slot. -/
theorem load_I {α : Type} {s t i : ℕ} {off : Fin 3 → ℕ} {inb : ∀ a, off a + S1x1x16.size a ≤ S2x8x384.size a}
    (hoff : ∀ a, off a = ![s, pr i, pc i] a) {hl : bI.view.LoadsAt (Rect.unit (s := S2x8x384) off S1x1x16.size inb).toLoadRect}
    {k : Vec F S1x1x16 .i32 → Prog (TpuEff nD τ sig (Elt F) Λ₀ (thr d L).2) α} {Q : α → sProp 𝕄} :
    (pI (F := F) d L idx b g s t) ⊢ iprop((∀ v : Vec F S1x1x16 .i32,
        ⌜∀ l : Fin 16, shapeCast S16 v shapeCasts_S1x1x16_S16 (lane l) = wordOf idx b g (3072 * t + 16 * i + l.val)⌝
          -∗ pI (F := F) d L idx b g s t -∗ WP d L (k v) Q)
      -∗ WP d L (.op (.load bI (Rect.unit (s := S2x8x384) off S1x1x16.size inb).toLoadRect hl) k) Q) := by
  unfold pI
  iintro ⟨%f, %hf, H⟩ Hk
  iapply (wp_load 𝒱₀ (thr d L) none Set.univ (m := bI) (S := setI s) (sub_setI hoff)) $$ H
  iintro H
  iapply Hk $$ [] [H]
  · ipureintro; exact ldI_lane hoff hf
  · iexists f; isplitr
    · ipureintro; exact hf
    · iexact H

/-- A load of sixteen numbers of channel `j` out of a landed slot. -/
theorem load_X {α : Type} {s t j i : ℕ} {off : Fin 4 → ℕ} {inb : ∀ a, off a + S1x1x1x16.size a ≤ S2x12x8x384.size a}
    (hoff : ∀ a, off a = ![s, j, pr i, pc i] a) {hl : bX.view.LoadsAt (Rect.unit (s := S2x12x8x384) off S1x1x1x16.size inb).toLoadRect}
    {k : Vec F S1x1x1x16 .f32 → Prog (TpuEff nD τ sig (Elt F) Λ₀ (thr d L).2) α} {Q : α → sProp 𝕄} :
    (pX d L inp b g s t) ⊢ iprop((∀ v : Vec F S1x1x1x16 .f32,
        ⌜∀ l : Fin 16, shapeCast S16 v shapeCasts_S1x1x1x16_S16 (lane l) = pixOf inp b g j (3072 * t + 16 * i + l.val)⌝
          -∗ pX d L inp b g s t -∗ WP d L (k v) Q)
      -∗ WP d L (.op (.load bX (Rect.unit (s := S2x12x8x384) off S1x1x1x16.size inb).toLoadRect hl) k) Q) := by
  unfold pX
  iintro ⟨%f, %hf, H⟩ Hk
  iapply (wp_load 𝒱₀ (thr d L) none Set.univ (m := bX) (S := setX s) (sub_setX hoff)) $$ H
  iintro H
  iapply Hk $$ [] [H]
  · ipureintro; exact ldX_lane hoff hf
  · iexists f; isplitr
    · ipureintro; exact hf
    · iexact H

/-- The scatter of channel `j`'s sixteen numbers into its row of the accumulators. -/
theorem scatter {α : Type} {n j : ℕ} {o : Fin 1 → ℕ} {inb : ∀ a, o a + S384.size a ≤ S4704.size a} (ho : o 0 = 392 * j)
    {iv : IVec S16 32} {v : Vec F S16 .f32} {mask : IVec S16 1}
    {h : ∀ a x, ((![iv] : Fin 1 → IVec S16 32) a x).toNat < S384.size a}
    (hm : ∀ k : Fin 16, mask (lane k) = IntOp.cmpi .sge (wordOf idx b g (n + k.val)) 0#32)
    (hi : ∀ k : Fin 16, iv (lane k) = wordOf idx b g (n + k.val) &&& 511#32)
    (hv : ∀ k : Fin 16, v (lane k) = pixOf inp b g j (n + k.val))
    {hs : ((rowA o inb).access (.whole S384)).Stores Finset.univ}
    {k : PUnit → Prog (TpuEff nD τ sig (Elt F) Λ₀ (thr d L).2) α} {Q : α → sProp 𝕄} :
    (pM d L inp idx b g n j) ⊢ iprop((pM d L inp idx b g n (j + 1) -∗ WP d L (k ⟨⟩) Q)
      -∗ WP d L (SparseCore.vectorStoreIdx (rowA o inb) ![iv] v mask true h hs >>= k) Q) := by
  unfold pM WP
  rw [show (SparseCore.vectorStoreIdx (rowA o inb) ![iv] v mask true h hs >>= k : Prog (TpuEff nD τ sig (Elt F) Λ₀ (thr d L).2) α)
      = .op (.load (rowA o inb) (.whole S384) (View.loadsAt_rect hs.loads)) fun f =>
          .op (.store (rowA o inb) (.whole S384) (storeIdx f ![iv] v mask true h) Finset.univ hs (.inl rfl)) k from rfl]
  iintro ⟨%f, %hf, H⟩ Hk
  iapply (wp_load_rect 𝒱₀ (thr d L) none Set.univ (m := rowA o inb) (r := Rect.whole S384) (S := Finset.univ) (Finset.subset_univ _)) $$ H
  iintro H
  iapply (wp_store 𝒱₀ (thr d L) none Set.univ (m := rowA o inb) (r := Rect.whole S384) (Mk := Finset.univ) (S := Finset.univ) (Finset.subset_univ _)) $$ H
  iintro H
  iapply Hk
  iexists (((rowA o inb).access (Rect.whole S384)).write (Elt F) f
    (storeIdx (((rowA o inb).access (Rect.whole S384)).read (Elt F) f) ![iv] v mask true h) Finset.univ : S4704.Idx → F .f32)
  isplitr
  · ipureintro; exact accStore ho hf iv v mask h hm hi hv
  · iexact H

end Steps

end Cert.Proof.Setup

end

end
-- ==== Proof.Trip.lean ====
/-
  One trip of the scatter loop: sixteen index words, then channel by channel sixteen numbers and their scatter.
-/
module

public import proofs.«01_k».proof.Proof.Setup

@[expose] public section

noncomputable section

namespace Cert.Proof.Trip

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves Cert.Proof.Setup

variable {F : FTy → Type} [FloatOps F]

local notation "𝕄" => MT nD τ sig (HIx 1) (Elt F) ℕ UU ℕ

variable {d : Dev nD} {L : grid0.Coords}
variable {inp : S4x96x384x384.Idx → F .f32} {idx : S4x384x384.Idx → BitVec 32} {b g : ℕ}

/-- What the two words vectors of a trip hold: the mask says which pixels count, the index vector their low nine bits. -/
def MaskOK (idx : S4x384x384.Idx → BitVec 32) (b g n : ℕ) (mask : IVec S16 1) : Prop :=
  ∀ k : Fin 16, mask (lane k) = IntOp.cmpi .sge (wordOf idx b g (n + k.val)) 0#32
def IndexOK (idx : S4x384x384.Idx → BitVec 32) (b g n : ℕ) (iv : IVec S16 32) : Prop :=
  ∀ k : Fin 16, iv (lane k) = wordOf idx b g (n + k.val) &&& 511#32

theorem IndexOK.lt {n : ℕ} {iv : IVec S16 32} (h : IndexOK idx b g n iv) (hidx : ∀ e, (idx e &&& 511#32).toNat < 384) :
    ∀ a x, ((![iv] : Fin 1 → IVec S16 32) a x).toNat < S384.size a := by
  intro a x
  obtain rfl : a = 0 := Fin.eq_zero a
  have hx : x = lane (⟨(x 0).val, (x 0).isLt⟩ : Fin 16) := by funext c; obtain rfl : c = 0 := Fin.eq_zero c; rfl
  show (iv x).toNat < 384
  have e := h ⟨(x 0).val, (x 0).isLt⟩
  rw [← hx] at e
  rw [e]
  exact hidx _

/-- The group of pixels trip `i` of chunk `t` takes. -/
abbrev at16 (t i : ℕ) : ℕ := 3072 * t + 16 * i

/-- The accumulators at the start of a group of sixteen, and at its end. -/
theorem pA_mid (d : Dev nD) (L : grid0.Coords) {n : ℕ} : (pA d L inp idx b g n) ⊢ pM d L inp idx b g n 0 := by
  unfold pA pM
  iintro ⟨%f, %hf, H⟩
  iexists f; isplitr
  · ipureintro; exact hf.mid
  · iexact H

theorem pM_end (d : Dev nD) (L : grid0.Coords) {t i : ℕ} :
    (pM d L inp idx b g (at16 t i) 12) ⊢ pA d L inp idx b g (3072 * t + 16 * (i + 1)) := by
  unfold pA pM
  iintro ⟨%f, %hf, H⟩
  iexists f; isplitr
  · ipureintro; exact hf.ok
  · iexact H

theorem part1 {t : ℕ} (hidx : ∀ e, (idx e &&& 511#32).toNat < 384) (c0 c1 : BitVec 32) (t3 : Fin k0_t3_loop.trips) :
    (pI (F := F) d L idx b g 0 t) ⊢ WP d L
      (k0_part1 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 c0 c1 t3)
      fun r => iprop(⌜MaskOK idx b g (at16 t t3.val) r.2.2.1 ∧ IndexOK idx b g (at16 t t3.val) r.2.2.2.1⌝ ∗ pI (F := F) d L idx b g 0 t) := by
  rw [k0_part1_eq_skeleton]; unfold k0_part1_skel
  simp only [Prog.lift, Prog.bind_op, Prog.bind_ret, Prog.pure_eq_ret]
  iintro H
  iapply (load_I (off7_eq t3)) $$ H
  iintro %v %hv H
  have hi : IndexOK idx b g (at16 t t3.val) (k0_pay3 v) := fun k => congrArg (fun w => w &&& 511#32) (hv k)
  have hm : MaskOK idx b g (at16 t t3.val) (k0_pay2 v) := fun k => congrArg (fun w => IntOp.cmpi .sge w 0#32) (hv k)
  have hl := hi.lt hidx
  iapply (wp_assume 𝒱₀ (thr d L) none Set.univ (show k0_chk1 (k0_pay3 v) from ⟨hl, hl, hl, hl, hl, hl, hl, hl, hl, hl, hl, hl⟩))
  iapply ret_WP
  isplitr
  · ipureintro; exact ⟨hm, hi⟩
  · iexact H

theorem part2 {t : ℕ} (t3 : Fin k0_t3_loop.trips) (a1 a2 : BitVec 32) {mask : IVec S16 1} {iv : IVec S16 32} {hw : k0_chk1 iv}
    (hm : MaskOK idx b g (at16 t t3.val) mask) (hi : IndexOK idx b g (at16 t t3.val) iv) :
    iprop(pX d L inp b g 0 t ∗ pM d L inp idx b g (at16 t t3.val) 0) ⊢ WP d L
      (k0_part2 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 t3 a1 a2 mask iv hw)
      fun _ => iprop(pX d L inp b g 0 t ∗ pM d L inp idx b g (at16 t t3.val) 5) := by
  rw [k0_part2_eq_skeleton]; unfold k0_part2_skel
  simp only [Prog.lift, Prog.bind_op, Prog.bind_ret, Prog.pure_eq_ret]
  iintro ⟨H, HA⟩
  iapply (load_X (off8_eq t3)) $$ H; iintro %v0 %h0 H
  iapply (scatter (j := 0) rfl hm hi h0) $$ HA; iintro HA
  iapply (load_X (off9_eq t3)) $$ H; iintro %v1 %h1 H
  iapply (scatter (j := 1) rfl hm hi h1) $$ HA; iintro HA
  iapply (load_X (off10_eq t3)) $$ H; iintro %v2 %h2 H
  iapply (scatter (j := 2) rfl hm hi h2) $$ HA; iintro HA
  iapply (load_X (off11_eq t3)) $$ H; iintro %v3 %h3 H
  iapply (scatter (j := 3) rfl hm hi h3) $$ HA; iintro HA
  iapply (load_X (off12_eq t3)) $$ H; iintro %v4 %h4 H
  iapply (scatter (j := 4) rfl hm hi h4) $$ HA; iintro HA
  iapply ret_WP
  isplitl [H]
  · iexact H
  · iexact HA

theorem part3 {t : ℕ} (t3 : Fin k0_t3_loop.trips) (a1 a2 : BitVec 32) {mask : IVec S16 1} {iv : IVec S16 32} {hw : k0_chk1 iv}
    (hm : MaskOK idx b g (at16 t t3.val) mask) (hi : IndexOK idx b g (at16 t t3.val) iv) :
    iprop(pX d L inp b g 0 t ∗ pM d L inp idx b g (at16 t t3.val) 5) ⊢ WP d L
      (k0_part3 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 t3 a1 a2 mask iv hw)
      fun v => iprop(⌜∀ k : Fin 16, v (lane k) = pixOf inp b g 10 (at16 t t3.val + k.val)⌝
        ∗ pX d L inp b g 0 t ∗ pM d L inp idx b g (at16 t t3.val) 10) := by
  rw [k0_part3_eq_skeleton]; unfold k0_part3_skel
  simp only [Prog.lift, Prog.bind_op, Prog.bind_ret, Prog.pure_eq_ret]
  iintro ⟨H, HA⟩
  iapply (load_X (off13_eq t3)) $$ H; iintro %v0 %h0 H
  iapply (scatter (j := 5) rfl hm hi h0) $$ HA; iintro HA
  iapply (load_X (off14_eq t3)) $$ H; iintro %v1 %h1 H
  iapply (scatter (j := 6) rfl hm hi h1) $$ HA; iintro HA
  iapply (load_X (off15_eq t3)) $$ H; iintro %v2 %h2 H
  iapply (scatter (j := 7) rfl hm hi h2) $$ HA; iintro HA
  iapply (load_X (off16_eq t3)) $$ H; iintro %v3 %h3 H
  iapply (scatter (j := 8) rfl hm hi h3) $$ HA; iintro HA
  iapply (load_X (off17_eq t3)) $$ H; iintro %v4 %h4 H
  iapply (scatter (j := 9) rfl hm hi h4) $$ HA; iintro HA
  iapply (load_X (off18_eq t3)) $$ H; iintro %v5 %h5 H
  iapply ret_WP
  isplitr
  · ipureintro; exact h5
  isplitl [H]
  · iexact H
  · iexact HA

/-- A trip on slot 0. -/
theorem trip0 {t : ℕ} (hidx : ∀ e, (idx e &&& 511#32).toNat < 384) (a1 a2 a3 : BitVec 32) (t2 : Fin k0_t2_loop.trips) (t3 : Fin k0_t3_loop.trips) :
    iprop(pI (F := F) d L idx b g 0 t ∗ pX d L inp b g 0 t ∗ pA d L inp idx b g (3072 * t + 16 * t3.val)) ⊢ WP d L
      (k0_t3_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2 a3 t2 t3 ())
      fun _ => iprop(pI (F := F) d L idx b g 0 t ∗ pX d L inp b g 0 t ∗ pA d L inp idx b g (3072 * t + 16 * (t3.val + 1))) := by
  unfold k0_t3_body
  simp only [Prog.lift, Prog.bind_op, Prog.bind_ret, Prog.pure_eq_ret]
  iintro ⟨HI, H, HA⟩
  ihave HA := (pA_mid d L) $$ HA
  iapply (part_WP (part1 hidx 0#32 1#32 t3)) $$ HI
  iintro %r ⟨%hr, HI⟩
  obtain ⟨r1, r2, mask, iv, hw⟩ := r
  obtain ⟨hm, hi⟩ := hr
  iapply (part_WP (part2 t3 r1 r2 hm hi)) $$ [H HA]
  · isplitl [H]
    · iexact H
    · iexact HA
  iintro %_ ⟨H, HA⟩
  iapply (part_WP (part3 t3 r1 r2 hm hi)) $$ [H HA]
  · isplitl [H]
    · iexact H
    · iexact HA
  iintro %v ⟨%hv, H, HA⟩
  iapply (scatter (j := 10) rfl hm hi hv) $$ HA; iintro HA
  iapply (load_X (off19_eq t3)) $$ H; iintro %v5 %h5 H
  iapply (scatter (j := 11) rfl hm hi h5) $$ HA; iintro HA
  iapply ret_WP
  isplitl [HI]
  · iexact HI
  isplitl [H]
  · iexact H
  iapply (pM_end d L); iexact HA

/-! The same on slot 1, whose trips are printed as parts of their own. -/

theorem part4 {t : ℕ} (hidx : ∀ e, (idx e &&& 511#32).toNat < 384) (c0 c1 : BitVec 32) (t4 : Fin k0_t4_loop.trips) :
    (pI (F := F) d L idx b g 1 t) ⊢ WP d L
      (k0_part4 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 c0 c1 t4)
      fun r => iprop(⌜MaskOK idx b g (at16 t t4.val) r.2.2.1 ∧ IndexOK idx b g (at16 t t4.val) r.2.2.2.1⌝ ∗ pI (F := F) d L idx b g 1 t) := by
  rw [k0_part4_eq_skeleton]; unfold k0_part4_skel
  simp only [Prog.lift, Prog.bind_op, Prog.bind_ret, Prog.pure_eq_ret]
  iintro H
  iapply (load_I (off22_eq t4)) $$ H
  iintro %v %hv H
  have hi : IndexOK idx b g (at16 t t4.val) (k0_pay17 v) := fun k => congrArg (fun w => w &&& 511#32) (hv k)
  have hm : MaskOK idx b g (at16 t t4.val) (k0_pay16 v) := fun k => congrArg (fun w => IntOp.cmpi .sge w 0#32) (hv k)
  have hl := hi.lt hidx
  iapply (wp_assume 𝒱₀ (thr d L) none Set.univ (show k0_chk2 (k0_pay17 v) from ⟨hl, hl, hl, hl, hl, hl, hl, hl, hl, hl, hl, hl⟩))
  iapply ret_WP
  isplitr
  · ipureintro; exact ⟨hm, hi⟩
  · iexact H

theorem part5 {t : ℕ} (t4 : Fin k0_t4_loop.trips) (a1 a2 : BitVec 32) {mask : IVec S16 1} {iv : IVec S16 32} {hw : k0_chk2 iv}
    (hm : MaskOK idx b g (at16 t t4.val) mask) (hi : IndexOK idx b g (at16 t t4.val) iv) :
    iprop(pX d L inp b g 1 t ∗ pM d L inp idx b g (at16 t t4.val) 0) ⊢ WP d L
      (k0_part5 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 t4 a1 a2 mask iv hw)
      fun _ => iprop(pX d L inp b g 1 t ∗ pM d L inp idx b g (at16 t t4.val) 5) := by
  rw [k0_part5_eq_skeleton]; unfold k0_part5_skel
  simp only [Prog.lift, Prog.bind_op, Prog.bind_ret, Prog.pure_eq_ret]
  iintro ⟨H, HA⟩
  iapply (load_X (off23_eq t4)) $$ H; iintro %v0 %h0 H
  iapply (scatter (j := 0) rfl hm hi h0) $$ HA; iintro HA
  iapply (load_X (off24_eq t4)) $$ H; iintro %v1 %h1 H
  iapply (scatter (j := 1) rfl hm hi h1) $$ HA; iintro HA
  iapply (load_X (off25_eq t4)) $$ H; iintro %v2 %h2 H
  iapply (scatter (j := 2) rfl hm hi h2) $$ HA; iintro HA
  iapply (load_X (off26_eq t4)) $$ H; iintro %v3 %h3 H
  iapply (scatter (j := 3) rfl hm hi h3) $$ HA; iintro HA
  iapply (load_X (off27_eq t4)) $$ H; iintro %v4 %h4 H
  iapply (scatter (j := 4) rfl hm hi h4) $$ HA; iintro HA
  iapply ret_WP
  isplitl [H]
  · iexact H
  · iexact HA

theorem part6 {t : ℕ} (t4 : Fin k0_t4_loop.trips) (a1 a2 : BitVec 32) {mask : IVec S16 1} {iv : IVec S16 32} {hw : k0_chk2 iv}
    (hm : MaskOK idx b g (at16 t t4.val) mask) (hi : IndexOK idx b g (at16 t t4.val) iv) :
    iprop(pX d L inp b g 1 t ∗ pM d L inp idx b g (at16 t t4.val) 5) ⊢ WP d L
      (k0_part6 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 t4 a1 a2 mask iv hw)
      fun v => iprop(⌜∀ k : Fin 16, v (lane k) = pixOf inp b g 10 (at16 t t4.val + k.val)⌝
        ∗ pX d L inp b g 1 t ∗ pM d L inp idx b g (at16 t t4.val) 10) := by
  rw [k0_part6_eq_skeleton]; unfold k0_part6_skel
  simp only [Prog.lift, Prog.bind_op, Prog.bind_ret, Prog.pure_eq_ret]
  iintro ⟨H, HA⟩
  iapply (load_X (off28_eq t4)) $$ H; iintro %v0 %h0 H
  iapply (scatter (j := 5) rfl hm hi h0) $$ HA; iintro HA
  iapply (load_X (off29_eq t4)) $$ H; iintro %v1 %h1 H
  iapply (scatter (j := 6) rfl hm hi h1) $$ HA; iintro HA
  iapply (load_X (off30_eq t4)) $$ H; iintro %v2 %h2 H
  iapply (scatter (j := 7) rfl hm hi h2) $$ HA; iintro HA
  iapply (load_X (off31_eq t4)) $$ H; iintro %v3 %h3 H
  iapply (scatter (j := 8) rfl hm hi h3) $$ HA; iintro HA
  iapply (load_X (off32_eq t4)) $$ H; iintro %v4 %h4 H
  iapply (scatter (j := 9) rfl hm hi h4) $$ HA; iintro HA
  iapply (load_X (off33_eq t4)) $$ H; iintro %v5 %h5 H
  iapply ret_WP
  isplitr
  · ipureintro; exact h5
  isplitl [H]
  · iexact H
  · iexact HA

/-- A trip on slot 1. -/
theorem trip1 {t : ℕ} (hidx : ∀ e, (idx e &&& 511#32).toNat < 384) (a1 a2 a3 a4 a5 : BitVec 32) (t2 : Fin k0_t2_loop.trips) (t4 : Fin k0_t4_loop.trips) :
    iprop(pI (F := F) d L idx b g 1 t ∗ pX d L inp b g 1 t ∗ pA d L inp idx b g (3072 * t + 16 * t4.val)) ⊢ WP d L
      (k0_t4_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 t2 a2 a3 a4 a5 t4 ())
      fun _ => iprop(pI (F := F) d L idx b g 1 t ∗ pX d L inp b g 1 t ∗ pA d L inp idx b g (3072 * t + 16 * (t4.val + 1))) := by
  unfold k0_t4_body
  simp only [Prog.lift, Prog.bind_op, Prog.bind_ret, Prog.pure_eq_ret]
  iintro ⟨HI, H, HA⟩
  ihave HA := (pA_mid d L) $$ HA
  iapply (part_WP (part4 hidx 0#32 1#32 t4)) $$ HI
  iintro %r ⟨%hr, HI⟩
  obtain ⟨r1, r2, mask, iv, hw⟩ := r
  obtain ⟨hm, hi⟩ := hr
  iapply (part_WP (part5 t4 r1 r2 hm hi)) $$ [H HA]
  · isplitl [H]
    · iexact H
    · iexact HA
  iintro %_ ⟨H, HA⟩
  iapply (part_WP (part6 t4 r1 r2 hm hi)) $$ [H HA]
  · isplitl [H]
    · iexact H
    · iexact HA
  iintro %v ⟨%hv, H, HA⟩
  iapply (scatter (j := 10) rfl hm hi hv) $$ HA; iintro HA
  iapply (load_X (off34_eq t4)) $$ H; iintro %v5 %h5 H
  iapply (scatter (j := 11) rfl hm hi h5) $$ HA; iintro HA
  iapply ret_WP
  isplitl [HI]
  · iexact HI
  isplitl [H]
  · iexact H
  iapply (pM_end d L); iexact HA

end Cert.Proof.Trip

end

end
-- ==== Proof.Loops.lean ====
/-
  The four inner loops: clearing the accumulators, scattering a landed chunk out of either slot, dividing by the counts.
-/
module

public import proofs.«01_k».proof.Proof.Trip

@[expose] public section

noncomputable section

namespace Cert.Proof.Loops

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves Cert.Proof.Setup

variable {F : FTy → Type} [FloatOps F]

local notation "𝕄" => MT nD τ sig (HIx 1) (Elt F) ℕ UU ℕ

variable {d : Dev nD} {L : grid0.Coords}
variable {inp : S4x96x384x384.Idx → F .f32} {idx : S4x384x384.Idx → BitVec 32} {cnt : S1536.Idx → F .f32} {b g : ℕ}

/-- A loop that carries no values, by what holds before each trip. -/
theorem loop_WP {lp : Scf.Loop 32} (ok : lp.OK) (body : Fin lp.trips → Unit → Prog (TpuEff nD τ sig (Elt F) Λ₀ (thr d L).2) Unit)
    (I : ℕ → sProp 𝕄) (h : ∀ k : Fin lp.trips, I k.val ⊢ WP d L (body k ()) fun _ => I (k.val + 1)) :
    I 0 ⊢ WP d L (Scf.Loop.for lp ok ⟨⟩ body) fun _ => I lp.trips := by
  unfold WP at h ⊢
  iintro H
  iapply (Scf.wp_for frame _ Set.univ lp.lb lp.ub lp.st ok () body (fun k _ => I k) (fun k _ => h k))
  isplitl [H]
  · iexact H
  · iintro %_ H; iexact H

/-! ## Clearing -/

/-- The accumulators with the first `n` groups of sixteen cleared. -/
def pZ (d : Dev nD) (L : grid0.Coords) (n : ℕ) : sProp 𝕄 :=
  iprop(∃ f : S4704.Idx → F .f32, ⌜ZeroTo n f⌝ ∗ bA.view.loc (thr d L) ↦{fullShare} f)

theorem clearTrip (t : Fin k0_t1_loop.trips) : pZ (F := F) d L t.val ⊢ WP d L
    (k0_t1_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 t ()) fun _ => pZ d L (t.val + 1) := by
  unfold k0_t1_body pZ
  simp only [Prog.lift, Prog.bind_op, Prog.bind_ret, Prog.pure_eq_ret]
  iintro ⟨%f, %hf, H⟩
  iapply (wp_load 𝒱₀ (thr d L) none Set.univ (m := bA) (S := Finset.univ) (Finset.subset_univ _)) $$ H
  iintro H
  iapply (wp_store 𝒱₀ (thr d L) none Set.univ (m := bA) (r := Rect.unit (s := S4704) (k0_off1 t) S16.size (k0_off1_inb t)) (Mk := Finset.univ)
    (S := Finset.univ) (Finset.subset_univ _)) $$ H
  iintro H
  iapply ret_WP
  iexists ((bA.access (Rect.unit (s := S4704) (k0_off1 t) S16.size (k0_off1_inb t))).write (Elt F) f (k0_pay31 (F := F)) Finset.univ : S4704.Idx → F .f32)
  isplitr
  · ipureintro; exact zeroStore (by rw [k0_off1_eq]; rfl) hf
  · iexact H

theorem pZ_zero : iprop(∃ f : S4704.Idx → F .f32, bA.view.loc (thr d L) ↦{fullShare} f) ⊢ pZ (F := F) d L 0 := by
  unfold pZ
  iintro ⟨%f, H⟩; iexists f
  isplitr
  · ipureintro; intro e he; exact absurd he (by omega)
  · iexact H

theorem pZ_end : pZ (F := F) d L 294 ⊢ pA d L inp idx b g 0 := by
  unfold pZ pA
  iintro ⟨%f, %hf, H⟩; iexists f
  isplitr
  · ipureintro; exact hf.acc
  · iexact H

/-- The clearing loop: nothing accumulated yet. -/
theorem clear : iprop(∃ f : S4704.Idx → F .f32, bA.view.loc (thr d L) ↦{fullShare} f) ⊢ WP d L
    (Scf.Loop.for k0_t1_loop k0_t1_ok ⟨⟩ (k0_t1_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1)) fun _ => pA d L inp idx b g 0 := by
  have h := loop_WP (d := d) (L := L) k0_t1_ok _ (fun n => pZ (F := F) d L n) clearTrip
  rw [trips1] at h
  exact pZ_zero.trans (h.trans (wp_mono frame _ _ fun _ => pZ_end))

/-! ## Scattering a chunk -/

theorem loop0 {t : ℕ} (hidx : ∀ e, (idx e &&& 511#32).toNat < 384) (a1 a2 a3 : BitVec 32) (t2 : Fin k0_t2_loop.trips) :
    iprop(pI (F := F) d L idx b g 0 t ∗ pX d L inp b g 0 t ∗ pA d L inp idx b g (3072 * t)) ⊢ WP d L
      (Scf.Loop.for k0_t3_loop k0_t3_ok ⟨⟩ (k0_t3_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2 a3 t2))
      fun _ => iprop(pI (F := F) d L idx b g 0 t ∗ pX d L inp b g 0 t ∗ pA d L inp idx b g (3072 * (t + 1))) := by
  have h := loop_WP (d := d) (L := L) k0_t3_ok _
    (fun n => iprop(pI (F := F) d L idx b g 0 t ∗ pX d L inp b g 0 t ∗ pA d L inp idx b g (3072 * t + 16 * n))) (Trip.trip0 hidx a1 a2 a3 t2)
  rw [trips3] at h
  exact h

theorem loop1 {t : ℕ} (hidx : ∀ e, (idx e &&& 511#32).toNat < 384) (a1 a2 a3 a4 a5 : BitVec 32) (t2 : Fin k0_t2_loop.trips) :
    iprop(pI (F := F) d L idx b g 1 t ∗ pX d L inp b g 1 t ∗ pA d L inp idx b g (3072 * t)) ⊢ WP d L
      (Scf.Loop.for k0_t4_loop k0_t4_ok ⟨⟩ (k0_t4_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 t2 a2 a3 a4 a5))
      fun _ => iprop(pI (F := F) d L idx b g 1 t ∗ pX d L inp b g 1 t ∗ pA d L inp idx b g (3072 * (t + 1))) := by
  have h := loop_WP (d := d) (L := L) k0_t4_ok _
    (fun n => iprop(pI (F := F) d L idx b g 1 t ∗ pX d L inp b g 1 t ∗ pA d L inp idx b g (3072 * t + 16 * n))) (Trip.trip1 hidx a1 a2 a3 a4 a5 t2)
  rw [trips4] at h
  exact h

/-! ## Dividing -/

/-- The counts of the tile's batch. -/
def pC (d : Dev nD) (L : grid0.Coords) (cnt : S1536.Idx → F .f32) (b : ℕ) : sProp 𝕄 :=
  iprop(∃ f : S384.Idx → F .f32, ⌜CntOK cnt b f⌝ ∗ bC.view.loc (thr d L) ↦{fullShare} f)
/-- The accumulators with the first `n` groups of sixteen results in place. -/
def pF (d : Dev nD) (L : grid0.Coords) (inp : S4x96x384x384.Idx → F .f32) (idx : S4x384x384.Idx → BitVec 32) (cnt : S1536.Idx → F .f32) (b g n : ℕ) : sProp 𝕄 :=
  iprop(∃ f : S4704.Idx → F .f32, ⌜FinTo inp idx cnt b g n f⌝ ∗ bA.view.loc (thr d L) ↦{fullShare} f)

theorem divTrip (a1 a2 : BitVec 32) (t : Fin k0_t5_loop.trips) : iprop(pC d L cnt b ∗ pF d L inp idx cnt b g t.val) ⊢ WP d L
    (k0_t5_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2 t ()) fun _ => iprop(pC d L cnt b ∗ pF d L inp idx cnt b g (t.val + 1)) := by
  have ht : t.val < 288 := trips5 ▸ t.isLt
  unfold k0_t5_body pC pF
  simp only [Prog.lift, Prog.bind_op, Prog.bind_ret, Prog.pure_eq_ret]
  iintro ⟨⟨%fc, %hc, HC⟩, ⟨%f, %hf, H⟩⟩
  iapply (wp_load 𝒱₀ (thr d L) none Set.univ (m := bA) (S := Finset.univ) (Finset.subset_univ _)) $$ H
  iintro H
  iapply (wp_load 𝒱₀ (thr d L) none Set.univ (m := bC) (S := Finset.univ) (Finset.subset_univ _)) $$ HC
  iintro HC
  iapply (wp_load 𝒱₀ (thr d L) none Set.univ (m := bA) (S := Finset.univ) (Finset.subset_univ _)) $$ H
  iintro H
  iapply (wp_store 𝒱₀ (thr d L) none Set.univ (m := bA) (r := Rect.unit (s := S4704) (k0_off39 t) S16.size (k0_off39_inb t)) (Mk := Finset.univ)
    (S := Finset.univ) (Finset.subset_univ _)) $$ H
  iintro H
  iapply ret_WP
  isplitl [HC]
  · iexists fc
    isplitr
    · ipureintro; exact hc
    · iexact HC
  iexists ((bA.access (Rect.unit (s := S4704) (k0_off39 t) S16.size (k0_off39_inb t))).write (Elt F) f
      (k0_pay32 (bA.view.readAt (Elt F) (Rect.unit (s := S4704) (k0_off37 t) S16.size (k0_off37_inb t)).toLoadRect f)
        (bC.view.readAt (Elt F) (Rect.unit (s := S384) (k0_off38 t) S16.size (k0_off38_inb t)).toLoadRect fc)) Finset.univ : S4704.Idx → F .f32)
  isplitr
  · ipureintro
    exact finStore ht (by rw [off37_eq]; rfl) (by rw [k0_off38_eq]; rfl) (by rw [k0_off39_eq]; rfl) hf hc
  · iexact H

theorem pF_zero : pA d L inp idx b g 147456 ⊢ pF d L inp idx cnt b g 0 := by
  unfold pA pF
  iintro ⟨%f, %hf, H⟩; iexists f
  isplitr
  · ipureintro; exact AccOK.fin hf
  · iexact H

theorem divide (a1 a2 : BitVec 32) : iprop(pC d L cnt b ∗ pA d L inp idx b g 147456) ⊢ WP d L
    (Scf.Loop.for k0_t5_loop k0_t5_ok ⟨⟩ (k0_t5_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2)) fun _ => iprop(pC d L cnt b ∗ pF d L inp idx cnt b g 288) := by
  have h := loop_WP (d := d) (L := L) k0_t5_ok _ (fun n => iprop(pC d L cnt b ∗ pF d L inp idx cnt b g n)) (divTrip a1 a2)
  rw [trips5] at h
  exact (sep_mono_right pF_zero).trans h

end Cert.Proof.Loops

end

end
-- ==== Proof.Copies.lean ====
/-
  A slot's two copies, of a chunk's index words and of its numbers, on the slot's one semaphore: issuing the pair, and
  the pair of waits, after the second of which both have landed.
-/
module

public import proofs.«01_k».proof.Proof.Setup

@[expose] public section

noncomputable section

namespace Cert.Proof.Copies

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.Offsets Cert.Proof.Model Cert.Proof.Blocks Cert.Proof.Moves Cert.Proof.Setup

variable {F : FTy → Type} [FloatOps F]

local notation "𝕄" => MT nD τ sig (HIx 1) (Elt F) ℕ UU ℕ

section Slot

variable (d : Dev nD) (L : grid0.Coords)
variable (inp : S4x96x384x384.Idx → F .f32) (idx : S4x384x384.Idx → BitVec 32) (b g : ℕ)
/- The shares of the two arrays that the slot's copies read, and the slot's semaphore. -/
variable (qI qX : PosShare TreeShare) (sem : DmaSem sig)

/-- What a copy of index words, and one of numbers, credits. -/
def creditI : ℕ := (bI.view.ref).dmaCredit S8x384 .i32
def creditX : ℕ := (bX.view.ref).dmaCredit S12x8x384 .f32

def amounts : Fin 2 → ℕ
  | 0 => creditI
  | 1 => creditX

/-- What the two copies of chunk `t` into slot `s` deliver: the slot holding the chunk, and the read source back. -/
def delivers (s t : ℕ) (AI : Finset S4x384x384.Idx) (AX : Finset S4x96x384x384.Idx) : Fin 2 → sProp 𝕄
  | 0 => iprop(pI (F := F) d L idx b g s t ∗ hI.view.loc (thr d L) ↦[AI]{qI} idx)
  | 1 => iprop(pX d L inp b g s t ∗ hX.view.loc (thr d L) ↦[AX]{qX} inp)

instance delivers_storable (s t : ℕ) (AI : Finset S4x384x384.Idx) (AX : Finset S4x96x384x384.Idx) (k : Fin 2) :
    BI.Storable (upEmb : UEmb _ 𝕄) (delivers d L inp idx b g qI qX s t AI AX k) := by
  match k with
  | 0 => unfold delivers pI; infer_instance
  | 1 => unfold delivers pX; infer_instance

theorem delivers_zero (s t : ℕ) (AI : Finset S4x384x384.Idx) (AX : Finset S4x96x384x384.Idx) : delivers d L inp idx b g qI qX s t AI AX 0
    = iprop(pI (F := F) d L idx b g s t ∗ hI.view.loc (thr d L) ↦[AI]{qI} idx) := rfl
theorem delivers_one (s t : ℕ) (AI : Finset S4x384x384.Idx) (AX : Finset S4x96x384x384.Idx) : delivers d L inp idx b g qI qX s t AI AX 1
    = iprop(pX d L inp b g s t ∗ hX.view.loc (thr d L) ↦[AX]{qX} inp) := rfl

theorem delivers_both (s t : ℕ) (AI : Finset S4x384x384.Idx) (AX : Finset S4x96x384x384.Idx) :
    bigSep Finset.univ (delivers d L inp idx b g qI qX s t AI AX)
      ⊢ iprop((pI (F := F) d L idx b g s t ∗ hI.view.loc (thr d L) ↦[AI]{qI} idx) ∗ (pX d L inp b g s t ∗ hX.view.loc (thr d L) ↦[AX]{qX} inp)) := by
  rw [bigSep_univ_two, delivers_zero, delivers_one]

theorem delivers_I {s t : ℕ} {AI : Finset S4x384x384.Idx} {AX : Finset S4x96x384x384.Idx} {f : S2x8x384.Idx → BitVec 32} (hf : SlotI idx b g s t f) :
    iprop((bI.view.loc (thr d L) ↦[setI s]{fullShare} f) ∗ hI.view.loc (thr d L) ↦[AI]{qI} idx) ⊢ delivers (F := F) d L inp idx b g qI qX s t AI AX 0 := by
  rw [delivers_zero]; unfold pI
  iintro ⟨Hd, Hs⟩
  isplitl [Hd]
  · iexists f
    isplitr
    · ipureintro; exact hf
    · iexact Hd
  · iexact Hs

theorem delivers_X {s t : ℕ} {AI : Finset S4x384x384.Idx} {AX : Finset S4x96x384x384.Idx} {f : S2x12x8x384.Idx → F .f32} (hf : SlotX inp b g s t f) :
    iprop((bX.view.loc (thr d L) ↦[setX s]{fullShare} f) ∗ hX.view.loc (thr d L) ↦[AX]{qX} inp) ⊢ delivers (F := F) d L inp idx b g qI qX s t AI AX 1 := by
  rw [delivers_one]; unfold pX
  iintro ⟨Hd, Hs⟩
  isplitl [Hd]
  · iexists f
    isplitr
    · ipureintro; exact hf
    · iexact Hd
  · iexact Hs

/-- The slot idle: its halves of the landing buffers at any contents, the sources, the semaphore at zero. -/
def Free (s : ℕ) : sProp 𝕄 :=
  iprop((∃ f : S2x8x384.Idx → BitVec 32, bI.view.loc (thr d L) ↦[setI s]{fullShare} f)
    ∗ (∃ f : S2x12x8x384.Idx → F .f32, bX.view.loc (thr d L) ↦[setX s]{fullShare} f)
    ∗ (hI.view.loc (thr d L) ↦{qI} idx) ∗ (hX.view.loc (thr d L) ↦{qX} inp) ∗ semVal (thr d L, .dma sem) 0)

/-- Chunk `t` on its way into the slot. -/
def InFlight (s t : ℕ) : sProp 𝕄 :=
  iprop(∃ (AI : Finset S4x384x384.Idx) (AX : Finset S4x96x384x384.Idx),
    MixedBatch EC (thr d L) (.dma sem) (none : HIx 1) amounts (delivers d L inp idx b g qI qX s t AI AX) 2 0
    ∗ (hI.view.loc (thr d L) ↦[Finset.univ \ AI]{qI} idx) ∗ (hX.view.loc (thr d L) ↦[Finset.univ \ AX]{qX} inp))

/-- Chunk `t` in the slot. -/
def Full (s t : ℕ) : sProp 𝕄 :=
  iprop(pI (F := F) d L idx b g s t ∗ pX d L inp b g s t
    ∗ (hI.view.loc (thr d L) ↦{qI} idx) ∗ (hX.view.loc (thr d L) ↦{qX} inp) ∗ semVal (thr d L, .dma sem) 0)

variable {d L inp idx b g qI qX sem}

theorem fire {α : Type} {s t : ℕ}
    {oI : Fin 3 → ℕ} {iI : ∀ a, oI a + S1x8x384.size a ≤ S4x384x384.size a} {dI : Fin 3 → ℕ} {jI : ∀ a, dI a + S1x8x384.size a ≤ S2x8x384.size a}
    {oX : Fin 4 → ℕ} {iX : ∀ a, oX a + S1x12x8x384.size a ≤ S4x96x384x384.size a} {dX : Fin 4 → ℕ} {jX : ∀ a, dX a + S1x12x8x384.size a ≤ S2x12x8x384.size a}
    (hoI : ∀ a, oI a = ![b, hrow g t, 0] a) (hdI : ∀ a, dI a = ![s, 0, 0] a)
    (hoX : ∀ a, oX a = ![b, 12 * g, hrow g t, 0] a) (hdX : ∀ a, dX a = ![s, 0, 0, 0] a)
    {h1 : (srcI oI iI).view.WordExact} {h2 : (dstI dI jI).view.WordExact} {h3 : DmaTarget.Typed (nD := nD) (τ := τ) (p := (thr d L).2) .hbm (.dma sem) (.here (dstI dI jI))}
    {h4 : (srcX oX iX).view.WordExact} {h5 : (dstX dX jX).view.WordExact} {h6 : DmaTarget.Typed (nD := nD) (τ := τ) (p := (thr d L).2) .hbm (.dma sem) (.here (dstX dX jX))}
    {k : PUnit → Prog (TpuEff nD τ sig (Elt F) Λ₀ (thr d L).2) α} {Q : α → sProp 𝕄} :
    Free d L inp idx qI qX sem s ⊢ iprop((InFlight d L inp idx b g qI qX sem s t -∗ WP d L (k ⟨⟩) Q)
      -∗ WP d L (.op (.enqueueDma (srcI oI iI) (.here (dstI dI jI)) (.dma sem) h1 h2 h3) fun _ =>
          .op (.enqueueDma (srcX oX iX) (.here (dstX dX jX)) (.dma sem) h4 h5 h6) k) Q) := by
  unfold Free
  iintro ⟨⟨%fI, HI⟩, ⟨%fX, HX⟩, HsI, HsX, Hz⟩ Hk
  ihave HsI' := (pointsTo_split_subset (q := qI) (f := idx) (S := Finset.univ) (Finset.subset_univ (srcI oI iI).view.set)).1 $$ HsI
  icases HsI' with ⟨HsI, HrI⟩
  ihave HsX' := (pointsTo_split_subset (q := qX) (f := inp) (S := Finset.univ) (Finset.subset_univ (srcX oX iX).view.set)).1 $$ HsX
  icases HsX' with ⟨HsX, HrX⟩
  imod (mixedBatch_alloc' EC (thr d L) (none : HIx 1) amounts (delivers d L inp idx b g qI qX s t (srcI oI iI).view.set (srcX oX iX).view.set)
    (sm := .dma sem) (E := Set.univ)) $$ Hz with HB
  iapply (wp_dmaMixedBatch EC 𝒱₀ (thr d L) none (src := srcI oI iI) (dst := dstI dI jI) (q := qI) (fs := idx) (Sd := setI s) (fd := fI) (none : HIx 1) amounts
    (D := delivers d L inp idx b g qI qX s t (srcI oI iI).view.set (srcX oX iX).view.set) (le_of_eq (set_dstI hdI)) (show 0 < 2 by decide) rfl (Nat.zero_le _) ?hD0) $$ [HsI HI HB]
  case hD0 => exact delivers_I d L inp idx b g qI qX (landI (F := F) hoI hdI fI)
  · isplitl [HsI]; · iexact HsI
    isplitl [HI]; · iexact HI
    iexact HB
  iintro HB
  iapply (wp_dmaMixedBatch EC 𝒱₀ (thr d L) none (src := srcX oX iX) (dst := dstX dX jX) (q := qX) (fs := inp) (Sd := setX s) (fd := fX) (none : HIx 1) amounts
    (D := delivers d L inp idx b g qI qX s t (srcI oI iI).view.set (srcX oX iX).view.set) (le_of_eq (set_dstX hdX)) (show 1 < 2 by decide) rfl (Nat.zero_le _) ?hD1) $$ [HsX HX HB]
  case hD1 => exact delivers_X d L inp idx b g qI qX (landX (F := F) hoX hdX fX)
  · isplitl [HsX]; · iexact HsX
    isplitl [HX]; · iexact HX
    iexact HB
  iintro HB
  iapply Hk
  unfold InFlight
  iexists (srcI oI iI).view.set, (srcX oX iX).view.set
  isplitl [HB]; · iexact HB
  isplitl [HrI]; · iexact HrI
  iexact HrX

theorem amounts_pos (k : Fin 2) : 0 < amounts k := by
  match k with
  | 0 => exact View.dmaCredit_pos (dstI ![0, 0, 0] inb_S2x8x384_S1x8x384_0_0_0).view (by decide)
  | 1 => exact View.dmaCredit_pos (dstX ![0, 0, 0, 0] inb_S2x12x8x384_S1x12x8x384_0_0_0_0).view (by decide)

/-- The pair of waits of a slot. -/
theorem await {α : Type} {s t : ℕ} {O : CellTallies nD τ sig (HIx 1)} {W : Waits sig (HIx 1)} (hO : ∀ c, O c none = 0)
    {oI : Fin 3 → ℕ} {iI : ∀ a, oI a + S1x8x384.size a ≤ S4x384x384.size a} {dI : Fin 3 → ℕ} {jI : ∀ a, dI a + S1x8x384.size a ≤ S2x8x384.size a}
    {oX : Fin 4 → ℕ} {iX : ∀ a, oX a + S1x12x8x384.size a ≤ S4x96x384x384.size a} {dX : Fin 4 → ℕ} {jX : ∀ a, dX a + S1x12x8x384.size a ≤ S2x12x8x384.size a}
    {h1 : (srcI oI iI).view.WordExact} {h2 : (dstI dI jI).view.WordExact}
    {h4 : (srcX oX iX).view.WordExact} {h5 : (dstX dX jX).view.WordExact}
    {k : PUnit → Prog (TpuEff nD τ sig (Elt F) Λ₀ (thr d L).2) α} {Q : α → sProp 𝕄} :
    iprop(levAts (K (F := F)).L (K (F := F)).lev ∗ InFlight d L inp idx b g qI qX sem s t ∗ (∃ W', ⌜∀ p ∈ W', p ∈ W ∨ p.2 = none⌝ ∗ owes (thr d L) O W'))
      ⊢ iprop((iprop(Full d L inp idx b g qI qX sem s t ∗ (∃ W', ⌜∀ p ∈ W', p ∈ W ∨ p.2 = none⌝ ∗ owes (thr d L) O W')) -∗ WP d L (k ⟨⟩) Q)
      -∗ WP d L (.op (.waitDma2 sem (srcI oI iI) (dstI dI jI) h1 h2) fun _ => .op (.waitDma2 sem (srcX oX iX) (dstX dX jX) h4 h5) k) Q) := by
  unfold InFlight
  iintro ⟨#Hlv, ⟨%AI, %AX, HB, HrI, HrX⟩, ⟨%W', %hW, HO⟩⟩ Hk
  iapply (wp_waitMixedBatchO EC 𝒱₀ (thr d L) none (none : HIx 1) (J := creditI) rfl (u := 0) (j := 2) (A := amounts)
    (show 0 + creditI ≤ sumTo amounts 2 by simp [sumTo, amounts]) (O := O) (W := W')) $$ [HB HO]
  · isplitl [HB]; · iexact HB
    isplitl [HO]; · iexact HO
    iapply ((K (F := F)).mayWait_none (SemLoc.dma sem) hO); iexact Hlv
  iintro ⟨HB, HO⟩
  iapply (wp_waitMixedBatchAllO EC 𝒱₀ (thr d L) none (none : HIx 1) (J := creditX) rfl amounts_pos
    (show 0 + creditI + creditX = sumTo amounts 2 by simp [sumTo, amounts])) $$ [HB HO]
  · isplitl [HB]; · iexact HB
    isplitl [HO]; · iexact HO
    iapply ((K (F := F)).mayWait_none (SemLoc.dma sem) hO); iexact Hlv
  iintro ⟨HD, Hz, HO⟩
  ihave HD := (delivers_both d L inp idx b g qI qX s t AI AX) $$ HD
  icases HD with ⟨⟨HI, HsI⟩, ⟨HX, HsX⟩⟩
  iapply Hk
  isplitr [HO]
  · unfold Full
    isplitl [HI]; · iexact HI
    isplitl [HX]; · iexact HX
    isplitl [HsI HrI]
    · iapply (pointsTo_split_subset (q := qI) (f := idx) (S := Finset.univ) (Finset.subset_univ AI)).2
      isplitl [HsI]; · iexact HsI
      iexact HrI
    isplitl [HsX HrX]
    · iapply (pointsTo_split_subset (q := qX) (f := inp) (S := Finset.univ) (Finset.subset_univ AX)).2
      isplitl [HsX]; · iexact HsX
      iexact HrX
    iexact Hz
  · iexists _; isplitr
    swap
    · iexact HO
    ipureintro; intro p hp
    rcases Finset.mem_insert.mp hp with hp | hp; · exact .inr (hp ▸ rfl)
    rcases Finset.mem_insert.mp hp with hp | hp; · exact .inr (hp ▸ rfl)
    exact hW p hp

/-- A used slot is idle again. -/
theorem Full.free {s t : ℕ} : Full d L inp idx b g qI qX sem s t ⊢ Free d L inp idx qI qX sem s := by
  unfold Full Free pI pX
  iintro ⟨⟨%fI, -, HI⟩, ⟨%fX, -, HX⟩, H⟩
  isplitl [HI]; · iexists fI; iexact HI
  isplitl [HX]; · iexists fX; iexact HX
  iexact H

end Slot

end Cert.Proof.Copies

end

end
-- ==== Proof.Tile.lean ====
/-
  One trip of the loop over pairs of chunks, and the tile's whole program.
-/
module

public import proofs.«01_k».proof.Proof.Loops
public import proofs.«01_k».proof.Proof.Copies

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves Cert.Proof.Setup

variable {F : FTy → Type} [FloatOps F]

local notation "𝕄" => MT nD τ sig (HIx 1) (Elt F) ℕ UU ℕ

open Cert.Proof.Copies Cert.Proof.Loops
open Idealize.ShloMosaic.Transfers

variable {d : Dev nD} {L : grid0.Coords}
variable {inp : S4x96x384x384.Idx → F .f32} {idx : S4x384x384.Idx → BitVec 32} {cnt : S1536.Idx → F .f32}
variable {q0 q1 r0 r1 : PosShare TreeShare} {O : CellTallies nD τ sig (HIx 1)} {W : Waits sig (HIx 1)}

/-- A slot before a trip: chunk `t` on its way, or nothing when the chunks have run out. -/
def Slot (d : Dev nD) (L : grid0.Coords) (inp : S4x96x384x384.Idx → F .f32) (idx : S4x384x384.Idx → BitVec 32) (qI qX : PosShare TreeShare) (sem : DmaSem sig)
    (s t : ℕ) : sProp 𝕄 :=
  if t < 48 then InFlight d L inp idx (bat L) (grp L) qI qX sem s t else Free d L inp idx qI qX sem s

/-- What the tile owes, its waits so far all of the kind no launch tag counts. -/
def Owe (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

set_option maxRecDepth 16384 in
theorem part7 (hO0 : ∀ c, O c none = 0) (hidx : ∀ e, (idx e &&& 511#32).toNat < 384) (a1 a2 a3 : BitVec 32) (t : Fin k0_t2_loop.trips) :
    iprop(levAts (K (F := F)).L (K (F := F)).lev ∗ InFlight d L inp idx (bat L) (grp L) q0 q1 cc0_scratch4.sem 0 (2 * t.val) ∗ Owe d L O W
        ∗ pA d L inp idx (bat L) (grp L) (3072 * (2 * t.val))) ⊢ WP d L
    (k0_part7 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2 a3 t)
    fun _ => iprop(Full d L inp idx (bat L) (grp L) q0 q1 cc0_scratch4.sem 0 (2 * t.val) ∗ Owe d L O W
        ∗ pA d L inp idx (bat L) (grp L) (3072 * (2 * t.val + 1))) := by
  rw [k0_part7_eq_skeleton]; unfold k0_part7_skel Owe
  simp only [Prog.lift, Prog.bind_op, Prog.bind_ret, Prog.pure_eq_ret]
  iintro ⟨#Hlv, HF, HO, HA⟩
  iapply (await hO0) $$ [HF HO]
  · isplitl []; · iexact Hlv
    isplitl [HF]; · iexact HF
    iexact HO
  iintro ⟨HF, HO⟩
  unfold Full
  icases HF with ⟨HI, HX, HR⟩
  iapply (part_WP (loop0 hidx a1 a2 a3 t)) $$ [HI HX HA]
  · isplitl [HI]; · iexact HI
    isplitl [HX]; · iexact HX
    iexact HA
  iintro %_ ⟨HI, HX, HA⟩
  iapply ret_WP
  isplitl [HI HX HR]
  · isplitl [HI]; · iexact HI
    isplitl [HX]; · iexact HX
    iexact HR
  isplitl [HO]; · iexact HO
  iexact HA

/-- The waits of slot 1 and the scatter of the chunk that landed in it. -/
theorem use1 {α : Type} (hO0 : ∀ c, O c none = 0) (hidx : ∀ e, (idx e &&& 511#32).toNat < 384) (a1 a2 a3 a4 a5 : BitVec 32) (t : Fin k0_t2_loop.trips)
    {oI : Fin 3 → ℕ} {iI : ∀ a, oI a + S1x8x384.size a ≤ S4x384x384.size a} {dI : Fin 3 → ℕ} {jI : ∀ a, dI a + S1x8x384.size a ≤ S2x8x384.size a}
    {oX : Fin 4 → ℕ} {iX : ∀ a, oX a + S1x12x8x384.size a ≤ S4x96x384x384.size a} {dX : Fin 4 → ℕ} {jX : ∀ a, dX a + S1x12x8x384.size a ≤ S2x12x8x384.size a}
    {h1 : (srcI oI iI).view.WordExact} {h2 : (dstI dI jI).view.WordExact}
    {h4 : (srcX oX iX).view.WordExact} {h5 : (dstX dX jX).view.WordExact}
    {k : Unit → Prog (TpuEff nD τ sig (Elt F) Λ₀ (thr d L).2) α} {Q : α → sProp 𝕄} :
    iprop(levAts (K (F := F)).L (K (F := F)).lev ∗ InFlight d L inp idx (bat L) (grp L) r0 r1 cc0_scratch5.sem 1 (2 * t.val + 1) ∗ Owe d L O W
        ∗ pA d L inp idx (bat L) (grp L) (3072 * (2 * t.val + 1)))
      ⊢ iprop((iprop(Full d L inp idx (bat L) (grp L) r0 r1 cc0_scratch5.sem 1 (2 * t.val + 1) ∗ Owe d L O W
          ∗ pA d L inp idx (bat L) (grp L) (3072 * (2 * t.val + 2))) -∗ WP d L (k ()) Q)
      -∗ WP d L (.op (.waitDma2 cc0_scratch5.sem (srcI oI iI) (dstI dI jI) h1 h2) fun _ => .op (.waitDma2 cc0_scratch5.sem (srcX oX iX) (dstX dX jX) h4 h5) fun _ =>
          Scf.Loop.for k0_t4_loop k0_t4_ok ⟨⟩ (k0_t4_body L hX (Memref.isWhole_whole _) hI (Memref.isWhole_whole _) hC (Memref.isWhole_whole _) hO (Memref.isWhole_whole _)
            bI (Memref.isWhole_whole _) bX (Memref.isWhole_whole _) bA (Memref.isWhole_whole _) bC (Memref.isWhole_whole _)
            cc0_scratch4 cc0_scratch5 cc0_scoped0 cc0_scoped1 a1 t a2 a3 a4 a5) >>= k) Q) := by
  unfold Owe
  iintro ⟨#Hlv, HF, HO, HA⟩ Hk
  iapply (await hO0) $$ [HF HO]
  · isplitl []; · iexact Hlv
    isplitl [HF]; · iexact HF
    iexact HO
  iintro ⟨HF, HO⟩
  unfold Full
  icases HF with ⟨HI, HX, HR⟩
  iapply (part_WP (loop1 hidx a1 a2 a3 a4 a5 t)) $$ [HI HX HA]
  · isplitl [HI]; · iexact HI
    isplitl [HX]; · iexact HX
    iexact HA
  iintro %u ⟨HI, HX, HA⟩
  iapply Hk
  isplitl [HI HX HR]
  · isplitl [HI]; · iexact HI
    isplitl [HX]; · iexact HX
    iexact HR
  isplitl [HO]; · iexact HO
  iexact HA

set_option maxRecDepth 16384 in
theorem part8 (hO0 : ∀ c, O c none = 0) (hidx : ∀ e, (idx e &&& 511#32).toNat < 384) (a1 a2 a3 a4 a5 : BitVec 32) (t : Fin k0_t2_loop.trips) :
    iprop(levAts (K (F := F)).L (K (F := F)).lev ∗ Full d L inp idx (bat L) (grp L) q0 q1 cc0_scratch4.sem 0 (2 * t.val)
        ∗ InFlight d L inp idx (bat L) (grp L) r0 r1 cc0_scratch5.sem 1 (2 * t.val + 1) ∗ Owe d L O W
        ∗ pA d L inp idx (bat L) (grp L) (3072 * (2 * t.val + 1))) ⊢ WP d L
    (k0_part8 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 t a2 a3 a4 a5)
    fun _ => iprop(Slot d L inp idx q0 q1 cc0_scratch4.sem 0 (2 * (t.val + 1))
        ∗ Full d L inp idx (bat L) (grp L) r0 r1 cc0_scratch5.sem 1 (2 * t.val + 1) ∗ Owe d L O W
        ∗ pA d L inp idx (bat L) (grp L) (3072 * (2 * t.val + 2))) := by
  rw [k0_part8_eq_skeleton]; unfold k0_part8_skel
  simp only [Prog.lift, Prog.bind_op, Prog.bind_ret, Prog.pure_eq_ret]
  iintro ⟨#Hlv, HF, H1, HO, HA⟩
  by_cases h : k0_cond1 t = 1#1
  · have ht : 2 * (t.val + 1) < 48 := by have := (cond1_iff t).mp h; omega
    rw [dif_pos h]
    ihave HF := Full.free $$ HF
    iapply (fire (b := bat L) (g := grp L) (t := 2 * t.val + 2) (off20_eq L t) (fun _ => rfl) (off21_eq L t) (fun _ => rfl)) $$ HF
    iintro HF
    iapply (use1 hO0 hidx a1 a2 a3 a4 a5 t) $$ [H1 HO HA]
    · isplitl []; · iexact Hlv
      isplitl [H1]; · iexact H1
      isplitl [HO]; · iexact HO
      iexact HA
    iintro H
    iapply ret_WP
    isplitr [H]
    · unfold Slot; rw [if_pos ht]; iexact HF
    · iexact H
  · have ht : ¬ 2 * (t.val + 1) < 48 := by have := mt (cond1_iff t).mpr h; omega
    rw [dif_neg h]
    ihave HF := Full.free $$ HF
    iapply (use1 hO0 hidx a1 a2 a3 a4 a5 t) $$ [H1 HO HA]
    · isplitl []; · iexact Hlv
      isplitl [H1]; · iexact H1
      isplitl [HO]; · iexact HO
      iexact HA
    iintro H
    iapply ret_WP
    isplitr [H]
    · unfold Slot; rw [if_neg ht]; iexact HF
    · iexact H

/-- Before trip `n` over the pairs of chunks. -/
def Inv (d : Dev nD) (L : grid0.Coords) (inp : S4x96x384x384.Idx → F .f32) (idx : S4x384x384.Idx → BitVec 32) (q0 q1 r0 r1 : PosShare TreeShare)
    (O : CellTallies nD τ sig (HIx 1)) (W : Waits sig (HIx 1)) (n : ℕ) : sProp 𝕄 :=
  iprop(levAts (K (F := F)).L (K (F := F)).lev ∗ Slot d L inp idx q0 q1 cc0_scratch4.sem 0 (2 * n) ∗ Slot d L inp idx r0 r1 cc0_scratch5.sem 1 (2 * n + 1)
    ∗ Owe d L O W ∗ pA d L inp idx (bat L) (grp L) (3072 * (2 * n)))

set_option maxRecDepth 16384 in
theorem pairTrip (hO0 : ∀ c, O c none = 0) (hidx : ∀ e, (idx e &&& 511#32).toNat < 384) (a1 a2 : BitVec 32) (t : Fin k0_t2_loop.trips) :
    Inv d L inp idx q0 q1 r0 r1 O W t.val ⊢ WP d L
    (k0_t2_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2 t ()) fun _ => Inv d L inp idx q0 q1 r0 r1 O W (t.val + 1) := by
  have htt : t.val < 24 := trips2 ▸ t.isLt
  unfold k0_t2_body Inv
  simp only [Prog.lift, Prog.bind_op, Prog.bind_ret, Prog.pure_eq_ret]
  rw [show Slot d L inp idx q0 q1 cc0_scratch4.sem 0 (2 * t.val) = InFlight d L inp idx (bat L) (grp L) q0 q1 cc0_scratch4.sem 0 (2 * t.val) from if_pos (by omega),
    show Slot d L inp idx r0 r1 cc0_scratch5.sem 1 (2 * t.val + 1) = InFlight d L inp idx (bat L) (grp L) r0 r1 cc0_scratch5.sem 1 (2 * t.val + 1) from if_pos (by omega)]
  iintro ⟨#Hlv, H0, H1, HO, HA⟩
  iapply (part_WP (part7 hO0 hidx a1 0#32 1#32 t)) $$ [H0 HO HA]
  · isplitl []; · iexact Hlv
    isplitl [H0]; · iexact H0
    isplitl [HO]; · iexact HO
    iexact HA
  iintro %r ⟨H0, HO, HA⟩
  iapply (part_WP (part8 hO0 hidx a1 r.1 r.2.1 r.2.2.1 r.2.2.2 t)) $$ [H0 H1 HO HA]
  · isplitl []; · iexact Hlv
    isplitl [H0]; · iexact H0
    isplitl [H1]; · iexact H1
    isplitl [HO]; · iexact HO
    iexact HA
  iintro %r' ⟨H0, H1, HO, HA⟩
  ihave H1 := Full.free $$ H1
  by_cases h : k0_cond2 t = 1#1
  · have ht : 2 * (t.val + 1) + 1 < 48 := by have := (cond2_iff t).mp h; omega
    simp only [dif_pos h]
    iapply (fire (b := bat L) (g := grp L) (t := 2 * t.val + 3) (off35_eq L t) (fun _ => rfl) (off36_eq L t) (fun _ => rfl)) $$ H1
    iintro H1
    iapply ret_WP
    isplitl []; · iexact Hlv
    isplitl [H0]; · iexact H0
    isplitl [H1]
    · unfold Slot; rw [if_pos ht]; iexact H1
    isplitl [HO]; · iexact HO
    iexact HA
  · have ht : ¬ 2 * (t.val + 1) + 1 < 48 := by have := mt (cond2_iff t).mpr h; omega
    simp only [dif_neg h]
    iapply ret_WP
    isplitl []; · iexact Hlv
    isplitl [H0]; · iexact H0
    isplitl [H1]
    · unfold Slot; rw [if_neg ht]; iexact H1
    isplitl [HO]; · iexact HO
    iexact HA

theorem pairs (hO0 : ∀ c, O c none = 0) (hidx : ∀ e, (idx e &&& 511#32).toNat < 384) (a1 a2 : BitVec 32) :
    Inv d L inp idx q0 q1 r0 r1 O W 0 ⊢ WP d L
    (Scf.Loop.for k0_t2_loop k0_t2_ok ⟨⟩ (k0_t2_body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2)) fun _ => Inv d L inp idx q0 q1 r0 r1 O W 24 := by
  have h := loop_WP (d := d) (L := L) k0_t2_ok _ (fun n => Inv d L inp idx q0 q1 r0 r1 O W n) (pairTrip hO0 hidx a1 a2)
  rw [trips2] at h
  exact h

end Cert.Proof.Tile

end

end
-- ==== Proof.Body.lean ====
/-
  The tile's two single copies, of its batch's counts in and of its results out, and the tile's whole program.
-/
module

public import proofs.«01_k».proof.Proof.Tile

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves Cert.Proof.Setup

variable {F : FTy → Type} [FloatOps F]

local notation "𝕄" => MT nD τ sig (HIx 1) (Elt F) ℕ UU ℕ

open Cert.Proof.Copies Cert.Proof.Loops Cert.Proof.Tile
open Idealize.ShloMosaic.Transfers

variable {d : Dev nD} {L : grid0.Coords}
variable {inp : S4x96x384x384.Idx → F .f32} {idx : S4x384x384.Idx → BitVec 32} {cnt : S1536.Idx → F .f32}
variable {q0 q1 r0 r1 qc : PosShare TreeShare} {O : CellTallies nD τ sig (HIx 1)} {W : Waits sig (HIx 1)} {sem : DmaSem sig}

/-! ## The counts in -/

def creditC : ℕ := (bC.view.ref).dmaCredit S384 .f32

/-- What the copy of the counts delivers: the batch's counts, and the read source back. -/
def deliversC (d : Dev nD) (L : grid0.Coords) (cnt : S1536.Idx → F .f32) (qc : PosShare TreeShare) (AC : Finset S1536.Idx) (_ : Fin 1) : sProp 𝕄 :=
  iprop(pC d L cnt (bat L) ∗ hC.view.loc (thr d L) ↦[AC]{qc} cnt)

instance deliversC_storable (AC : Finset S1536.Idx) (k : Fin 1) : BI.Storable (upEmb : UEmb _ 𝕄) (deliversC d L cnt qc AC k) := by
  unfold deliversC pC; infer_instance

theorem deliversC_intro {AC : Finset S1536.Idx} {f : S384.Idx → F .f32} (hf : CntOK cnt (bat L) f) (k : Fin 1) :
    iprop((bC.view.loc (thr d L) ↦{fullShare} f) ∗ hC.view.loc (thr d L) ↦[AC]{qc} cnt) ⊢ deliversC d L cnt qc AC k := by
  unfold deliversC pC
  iintro ⟨Hd, Hs⟩
  isplitl [Hd]
  · iexists f
    isplitr
    · ipureintro; exact hf
    · iexact Hd
  · iexact Hs

theorem bigSep_one {Φ : Fin 1 → sProp 𝕄} : bigSep Finset.univ Φ ⊢ Φ 0 := by
  rw [show (Finset.univ : Finset (Fin 1)) = {0} from rfl, bigSep_singleton]

/-- The copy of the batch's counts. -/
theorem copyC {α : Type} (hO0 : ∀ c, O c none = 0) {o : Fin 1 → ℕ} {inb : ∀ a, o a + S384.size a ≤ S1536.size a} (ho : ∀ a, o a = ![bat L * 384] a)
    {h1 : (srcC o inb).view.WordExact} {h2 : bC.view.WordExact} {h3 : DmaTarget.Typed (nD := nD) (τ := τ) (p := (thr d L).2) .hbm (.dma sem) (.here bC)}
    {h4 : (srcC o inb).view.WordExact} {h5 : bC.view.WordExact}
    {k : PUnit → Prog (TpuEff nD τ sig (Elt F) Λ₀ (thr d L).2) α} {Q : α → sProp 𝕄} :
    iprop(levAts (K (F := F)).L (K (F := F)).lev ∗ (∃ f : S384.Idx → F .f32, bC.view.loc (thr d L) ↦{fullShare} f)
        ∗ (hC.view.loc (thr d L) ↦{qc} cnt) ∗ semVal (thr d L, .dma sem) 0 ∗ Owe (F := F) d L O W)
      ⊢ iprop((iprop(pC d L cnt (bat L) ∗ (hC.view.loc (thr d L) ↦{qc} cnt) ∗ semVal (thr d L, .dma sem) 0 ∗ Owe (F := F) d L O W) -∗ WP d L (k ⟨⟩) Q)
      -∗ WP d L (.op (.enqueueDma (srcC o inb) (.here bC) (.dma sem) h1 h2 h3) fun _ => .op (.waitDma2 sem (srcC o inb) bC h4 h5) k) Q) := by
  unfold Owe
  iintro ⟨#Hlv, ⟨%f, HC⟩, Hs, Hz, ⟨%W', %hW, HO⟩⟩ Hk
  ihave Hs' := (pointsTo_split_subset (q := qc) (f := cnt) (S := Finset.univ) (Finset.subset_univ (srcC o inb).view.set)).1 $$ Hs
  icases Hs' with ⟨Hs, Hr⟩
  imod (mixedBatch_alloc' EC (thr d L) (none : HIx 1) (fun _ : Fin 1 => creditC) (deliversC d L cnt qc (srcC o inb).view.set)
    (sm := .dma sem) (E := Set.univ)) $$ Hz with HB
  iapply (wp_dmaMixedBatch EC 𝒱₀ (thr d L) none (src := srcC o inb) (dst := bC) (q := qc) (fs := cnt) (Sd := Finset.univ) (fd := f) (none : HIx 1) (fun _ : Fin 1 => creditC)
    (D := deliversC d L cnt qc (srcC o inb).view.set) (Finset.subset_univ _) (show 0 < 1 by decide) rfl (Nat.zero_le _) ?hD) $$ [Hs HC HB]
  case hD => exact deliversC_intro (landC ho f) _
  · isplitl [Hs]; · iexact Hs
    isplitl [HC]; · iexact HC
    iexact HB
  iintro HB
  iapply (wp_waitMixedBatchAllO EC 𝒱₀ (thr d L) none (none : HIx 1) (J := creditC) rfl (fun _ => View.dmaCredit_pos bC.view (by decide))
    (show 0 + creditC = sumTo (fun _ : Fin 1 => creditC) 1 by simp [sumTo]) (O := O) (W := W')) $$ [HB HO]
  · isplitl [HB]; · iexact HB
    isplitl [HO]; · iexact HO
    iapply ((K (F := F)).mayWait_none (SemLoc.dma sem) hO0); iexact Hlv
  iintro ⟨HD, Hz, HO⟩
  ihave HD := bigSep_one $$ HD
  unfold deliversC
  icases HD with ⟨HC, Hs⟩
  iapply Hk
  isplitl [HC]; · iexact HC
  isplitl [Hs Hr]
  · iapply (pointsTo_split_subset (q := qc) (f := cnt) (S := Finset.univ) (Finset.subset_univ (srcC o inb).view.set)).2
    isplitl [Hs]; · iexact Hs
    iexact Hr
  isplitl [Hz]; · iexact Hz
  iexists (insert (SemLoc.dma sem, none) W'); isplitr
  · ipureintro; intro p hp
    rcases Finset.mem_insert.mp hp with hp | hp; · exact .inr (hp ▸ rfl)
    exact hW p hp
  · iexact HO

/-! ## The results out -/

/-- The places of the result that tile `w` writes. -/
def piece (w : ℕ) : Finset S147456.Idx := Finset.univ.filter fun e => (e 0).val / 4608 = w

theorem set_dstO {w : ℕ} {o : Fin 1 → ℕ} {inb : ∀ a, o a + S4608.size a ≤ S147456.size a} (ho : ∀ a, o a = ![w * 4608] a) :
    (dstO o inb).view.set = piece w := by
  have h0 : o 0 = w * 4608 := ho 0
  ext e
  simp only [piece, Finset.mem_filter, Finset.mem_univ, true_and]
  have hset : (dstO o inb).view.set = (Rect.unit (s := S147456) o S4608.size inb).set := by
    show (hO.view.slice (Rect.unit (s := S147456) o S4608.size inb)).set = _
    rw [View.set_slice]
    exact Finset.map_refl
  rw [hset, Rect.mem_set_unit]
  constructor
  · intro h
    have := h 0
    rw [h0, show S4608.size 0 = 4608 from rfl] at this
    omega
  · intro h a
    obtain rfl : a = 0 := Fin.eq_zero a
    rw [h0, show S4608.size 0 = 4608 from rfl]
    omega

def creditO : ℕ := (hO.view.ref).dmaCredit S4608 .f32

/-- What the copy of the results delivers: the tile's piece of the output, and the accumulators' front back. -/
def deliversO (d : Dev nD) (L : grid0.Coords) (inp : S4x96x384x384.Idx → F .f32) (idx : S4x384x384.Idx → BitVec 32) (cnt : S1536.Idx → F .f32)
    (AA : Finset S4704.Idx) (f : S4704.Idx → F .f32) (_ : Fin 1) : sProp 𝕄 :=
  iprop((hO.view.loc (thr d L) ↦[piece (wid L)]{fullShare} (outOf inp idx cnt : S147456.Idx → F .f32)) ∗ bA.view.loc (thr d L) ↦[AA]{fullShare} f)

instance deliversO_storable (AA : Finset S4704.Idx) (f : S4704.Idx → F .f32) (k : Fin 1) :
    BI.Storable (upEmb : UEmb _ 𝕄) (deliversO d L inp idx cnt AA f k) := by
  unfold deliversO; infer_instance

/-- The tile's results on their way out. -/
def OutFlight (d : Dev nD) (L : grid0.Coords) (inp : S4x96x384x384.Idx → F .f32) (idx : S4x384x384.Idx → BitVec 32) (cnt : S1536.Idx → F .f32) (sem : DmaSem sig) : sProp 𝕄 :=
  iprop(∃ (AA : Finset S4704.Idx) (f : S4704.Idx → F .f32),
    MixedBatch EC (thr d L) (.dma sem) (none : HIx 1) (fun _ : Fin 1 => creditO) (deliversO d L inp idx cnt AA f) 1 0
    ∗ bA.view.loc (thr d L) ↦[Finset.univ \ AA]{fullShare} f)

theorem deliversO_intro {o : Fin 1 → ℕ} {inb : ∀ a, o a + S4608.size a ≤ S147456.size a} {o' : Fin 1 → ℕ} {inb' : ∀ a, o' a + S4608.size a ≤ S4704.size a}
    (ho : ∀ a, o a = ![wid L * 4608] a) (ho' : o' 0 = 0) {f : S4704.Idx → F .f32} (hf : FinTo inp idx cnt (bat L) (grp L) 288 f) (fd : S147456.Idx → F .f32)
    {AA : Finset S4704.Idx} (k : Fin 1) :
    iprop((hO.view.loc (thr d L) ↦[piece (wid L)]{fullShare} ((dstO o inb).view.write (Elt F) fd ((srcO o' inb').view.read (Elt F) f) Finset.univ : S147456.Idx → F .f32))
      ∗ bA.view.loc (thr d L) ↦[AA]{fullShare} f) ⊢ deliversO d L inp idx cnt AA f k := by
  unfold deliversO
  have e : (hO.view.loc (thr d L) ↦[piece (wid L)]{fullShare}
      ((dstO o inb).view.write (Elt F) fd ((srcO o' inb').view.read (Elt F) f) Finset.univ : S147456.Idx → F .f32) : sProp 𝕄)
        = (hO.view.loc (thr d L) ↦[piece (wid L)]{fullShare} (outOf inp idx cnt : S147456.Idx → F .f32)) :=
    pointsTo_congr fun e he => landO (wid_lt L) ho ho' hf fd e ((set_dstO (inb := inb) ho).symm ▸ he)
  rw [e]

theorem fireO {α : Type} {o : Fin 1 → ℕ} {inb : ∀ a, o a + S4608.size a ≤ S147456.size a} {o' : Fin 1 → ℕ} {inb' : ∀ a, o' a + S4608.size a ≤ S4704.size a}
    (ho : ∀ a, o a = ![wid L * 4608] a) (ho' : o' 0 = 0)
    {h1 : (srcO o' inb').view.WordExact} {h2 : (dstO o inb).view.WordExact} {h3 : DmaTarget.Typed (nD := nD) (τ := τ) (p := (thr d L).2) .vmem (.dma sem) (.here (dstO o inb))}
    {k : PUnit → Prog (TpuEff nD τ sig (Elt F) Λ₀ (thr d L).2) α} {Q : α → sProp 𝕄} :
    iprop(pF d L inp idx cnt (bat L) (grp L) 288 ∗ (∃ f : S147456.Idx → F .f32, hO.view.loc (thr d L) ↦[piece (wid L)]{fullShare} f) ∗ semVal (thr d L, .dma sem) 0)
      ⊢ iprop((OutFlight d L inp idx cnt sem -∗ WP d L (k ⟨⟩) Q) -∗ WP d L (.op (.enqueueDma (srcO o' inb') (.here (dstO o inb)) (.dma sem) h1 h2 h3) k) Q) := by
  unfold pF
  iintro ⟨⟨%f, %hf, HA⟩, ⟨%fd, HO⟩, Hz⟩ Hk
  ihave HA' := (pointsTo_split_subset (q := fullShare) (f := f) (S := Finset.univ) (Finset.subset_univ (srcO o' inb').view.set)).1 $$ HA
  icases HA' with ⟨Hs, Hr⟩
  imod (mixedBatch_alloc' EC (thr d L) (none : HIx 1) (fun _ : Fin 1 => creditO) (deliversO d L inp idx cnt (srcO o' inb').view.set f)
    (sm := .dma sem) (E := Set.univ)) $$ Hz with HB
  iapply (wp_dmaMixedBatch EC 𝒱₀ (thr d L) none (src := srcO o' inb') (dst := dstO o inb) (q := fullShare) (fs := f) (Sd := piece (wid L)) (fd := fd) (none : HIx 1)
    (fun _ : Fin 1 => creditO) (D := deliversO d L inp idx cnt (srcO o' inb').view.set f) (le_of_eq (set_dstO ho)) (show 0 < 1 by decide) rfl (Nat.zero_le _) ?hD) $$ [Hs HO HB]
  case hD => exact deliversO_intro ho ho' hf fd _
  · isplitl [Hs]; · iexact Hs
    isplitl [HO]; · iexact HO
    iexact HB
  iintro HB
  iapply Hk
  unfold OutFlight
  iexists (srcO o' inb').view.set, f
  isplitl [HB]; · iexact HB
  iexact Hr

theorem awaitO {α : Type} (hO0 : ∀ c, O c none = 0) {o : Fin 1 → ℕ} {inb : ∀ a, o a + S4608.size a ≤ S147456.size a} {o' : Fin 1 → ℕ} {inb' : ∀ a, o' a + S4608.size a ≤ S4704.size a}
    {h1 : (srcO o' inb').view.WordExact} {h2 : (dstO o inb).view.WordExact}
    {k : PUnit → Prog (TpuEff nD τ sig (Elt F) Λ₀ (thr d L).2) α} {Q : α → sProp 𝕄} :
    iprop(levAts (K (F := F)).L (K (F := F)).lev ∗ OutFlight d L inp idx cnt sem ∗ Owe (F := F) d L O W)
      ⊢ iprop((iprop((hO.view.loc (thr d L) ↦[piece (wid L)]{fullShare} (outOf inp idx cnt : S147456.Idx → F .f32))
          ∗ (∃ f : S4704.Idx → F .f32, bA.view.loc (thr d L) ↦{fullShare} f) ∗ semVal (thr d L, .dma sem) 0 ∗ Owe (F := F) d L O W) -∗ WP d L (k ⟨⟩) Q)
      -∗ WP d L (.op (.waitDma2 sem (srcO o' inb') (dstO o inb) h1 h2) k) Q) := by
  unfold OutFlight Owe
  iintro ⟨#Hlv, ⟨%AA, %f, HB, Hr⟩, ⟨%W', %hW, HO⟩⟩ Hk
  iapply (wp_waitMixedBatchAllO EC 𝒱₀ (thr d L) none (none : HIx 1) (J := creditO) rfl (fun _ => View.dmaCredit_pos (dstO o inb).view (by decide))
    (show 0 + creditO = sumTo (fun _ : Fin 1 => creditO) 1 by simp [sumTo]) (O := O) (W := W')) $$ [HB HO]
  · isplitl [HB]; · iexact HB
    isplitl [HO]; · iexact HO
    iapply ((K (F := F)).mayWait_none (SemLoc.dma sem) hO0); iexact Hlv
  iintro ⟨HD, Hz, HO⟩
  ihave HD := bigSep_one $$ HD
  unfold deliversO
  icases HD with ⟨HR, Hs⟩
  iapply Hk
  isplitl [HR]; · iexact HR
  isplitl [Hs Hr]
  · iexists f
    iapply (pointsTo_split_subset (q := fullShare) (f := f) (S := Finset.univ) (Finset.subset_univ AA)).2
    isplitl [Hs]; · iexact Hs
    iexact Hr
  isplitl [Hz]; · iexact Hz
  iexists (insert (SemLoc.dma sem, none) W'); isplitr
  · ipureintro; intro p hp
    rcases Finset.mem_insert.mp hp with hp | hp; · exact .inr (hp ▸ rfl)
    exact hW p hp
  · iexact HO

/-! ## The whole program -/

theorem halfI : setI 1 = Finset.univ \ setI 0 := by
  ext e
  have h : (e 0).val < 2 := (e 0).isLt
  simp only [setI, Finset.mem_filter, Finset.mem_univ, true_and, Finset.mem_sdiff]
  omega
theorem halfX : setX 1 = Finset.univ \ setX 0 := by
  ext e
  have h : (e 0).val < 2 := (e 0).isLt
  simp only [setX, Finset.mem_filter, Finset.mem_univ, true_and, Finset.mem_sdiff]
  omega

/-- The tile's four buffers at any contents. -/
def Scr (d : Dev nD) (L : grid0.Coords) : sProp 𝕄 :=
  iprop((∃ f : S2x8x384.Idx → BitVec 32, bI.view.loc (thr d L) ↦{fullShare} f) ∗ (∃ f : S2x12x8x384.Idx → F .f32, bX.view.loc (thr d L) ↦{fullShare} f)
    ∗ (∃ f : S4704.Idx → F .f32, bA.view.loc (thr d L) ↦{fullShare} f) ∗ (∃ f : S384.Idx → F .f32, bC.view.loc (thr d L) ↦{fullShare} f))

/-- What the tile reads. -/
def Src (d : Dev nD) (L : grid0.Coords) (inp : S4x96x384x384.Idx → F .f32) (idx : S4x384x384.Idx → BitVec 32) (cnt : S1536.Idx → F .f32)
    (q0 q1 r0 r1 qc : PosShare TreeShare) : sProp 𝕄 :=
  iprop((hI.view.loc (thr d L) ↦{q0} idx) ∗ (hX.view.loc (thr d L) ↦{q1} inp) ∗ (hI.view.loc (thr d L) ↦{r0} idx) ∗ (hX.view.loc (thr d L) ↦{r1} inp)
    ∗ hC.view.loc (thr d L) ↦{qc} cnt)

/-- The tile's four semaphores at zero. -/
def Sems (d : Dev nD) (L : grid0.Coords) : sProp 𝕄 :=
  iprop(semVal (thr d L, .dma cc0_scratch4.sem) 0 ∗ semVal (thr d L, .dma cc0_scratch5.sem) 0 ∗ semVal (thr d L, .dma cc0_scoped0.sem) 0
    ∗ semVal (thr d L, .dma cc0_scoped1.sem) 0)

/-- The two slots idle. -/
def Idle (d : Dev nD) (L : grid0.Coords) (inp : S4x96x384x384.Idx → F .f32) (idx : S4x384x384.Idx → BitVec 32) (q0 q1 r0 r1 : PosShare TreeShare) : sProp 𝕄 :=
  iprop(Free d L inp idx q0 q1 cc0_scratch4.sem 0 ∗ Free d L inp idx r0 r1 cc0_scratch5.sem 1)

/-- The tile's landing buffers, sources and two semaphores are its two slots idle, and the other way round. -/
theorem idle_intro : iprop((∃ f : S2x8x384.Idx → BitVec 32, bI.view.loc (thr d L) ↦{fullShare} f) ∗ (∃ f : S2x12x8x384.Idx → F .f32, bX.view.loc (thr d L) ↦{fullShare} f)
      ∗ (hI.view.loc (thr d L) ↦{q0} idx) ∗ (hX.view.loc (thr d L) ↦{q1} inp) ∗ (hI.view.loc (thr d L) ↦{r0} idx) ∗ (hX.view.loc (thr d L) ↦{r1} inp)
      ∗ semVal (thr d L, .dma cc0_scratch4.sem) 0 ∗ semVal (thr d L, .dma cc0_scratch5.sem) 0)
    ⊢ Idle d L inp idx q0 q1 r0 r1 := by
  unfold Idle Free
  iintro ⟨⟨%fI, HI⟩, ⟨%fX, HX⟩, H0, H1, H2, H3, H4, H5⟩
  ihave HI := (pointsTo_split_subset (q := fullShare) (f := fI) (S := Finset.univ) (Finset.subset_univ (setI 0))).1 $$ HI
  ihave HX := (pointsTo_split_subset (q := fullShare) (f := fX) (S := Finset.univ) (Finset.subset_univ (setX 0))).1 $$ HX
  icases HI with ⟨HI0, HI1⟩
  icases HX with ⟨HX0, HX1⟩
  isplitl [HI0 HX0 H0 H1 H4]
  · isplitl [HI0]; · iexists fI; iexact HI0
    isplitl [HX0]; · iexists fX; iexact HX0
    isplitl [H0]; · iexact H0
    isplitl [H1]; · iexact H1
    iexact H4
  · rw [halfI, halfX]
    isplitl [HI1]; · iexists fI; iexact HI1
    isplitl [HX1]; · iexists fX; iexact HX1
    isplitl [H2]; · iexact H2
    isplitl [H3]; · iexact H3
    iexact H5

theorem idle_elim : Idle d L inp idx q0 q1 r0 r1 ⊢
    iprop((∃ f : S2x8x384.Idx → BitVec 32, bI.view.loc (thr d L) ↦{fullShare} f) ∗ (∃ f : S2x12x8x384.Idx → F .f32, bX.view.loc (thr d L) ↦{fullShare} f)
      ∗ (hI.view.loc (thr d L) ↦{q0} idx) ∗ (hX.view.loc (thr d L) ↦{q1} inp) ∗ (hI.view.loc (thr d L) ↦{r0} idx) ∗ (hX.view.loc (thr d L) ↦{r1} inp)
      ∗ semVal (thr d L, .dma cc0_scratch4.sem) 0 ∗ semVal (thr d L, .dma cc0_scratch5.sem) 0) := by
  unfold Idle Free
  rw [halfI, halfX]
  iintro ⟨⟨⟨%fI, HI0⟩, ⟨%fX, HX0⟩, H0, H1, H4⟩, ⟨⟨%gI, HI1⟩, ⟨%gX, HX1⟩, H2, H3, H5⟩⟩
  isplitl [HI0 HI1]
  · iexists ((setI 0).piecewise fI gI : S2x8x384.Idx → BitVec 32)
    iapply (pointsTo_join_subset (q := fullShare) (g := fI) (f := gI) (S := Finset.univ) (Finset.subset_univ (setI 0)))
    isplitl [HI0]; · iexact HI0
    iexact HI1
  isplitl [HX0 HX1]
  · iexists ((setX 0).piecewise fX gX : S2x12x8x384.Idx → F .f32)
    iapply (pointsTo_join_subset (q := fullShare) (g := fX) (f := gX) (S := Finset.univ) (Finset.subset_univ (setX 0)))
    isplitl [HX0]; · iexact HX0
    iexact HX1
  isplitl [H0]; · iexact H0
  isplitl [H1]; · iexact H1
  isplitl [H2]; · iexact H2
  isplitl [H3]; · iexact H3
  isplitl [H4]; · iexact H4
  iexact H5

theorem part9 : iprop(∃ f : S4704.Idx → F .f32, bA.view.loc (thr d L) ↦{fullShare} f) ⊢ WP d L
    (k0_part9 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1)
    fun _ => pA d L inp idx (bat L) (grp L) 0 := by
  rw [k0_part9_eq_skeleton]; unfold k0_part9_skel
  simp only [Prog.lift, Prog.bind_op, Prog.bind_ret, Prog.pure_eq_ret]
  iintro H
  iapply (part_WP clear) $$ H
  iintro %_ H
  iapply ret_WP
  iexact H

set_option maxRecDepth 16384 in
theorem part10 (hO0 : ∀ c, O c none = 0) (a1 : BitVec 32) :
    iprop(levAts (K (F := F)).L (K (F := F)).lev ∗ (∃ f : S384.Idx → F .f32, bC.view.loc (thr d L) ↦{fullShare} f)
        ∗ (hC.view.loc (thr d L) ↦{qc} cnt) ∗ semVal (thr d L, .dma cc0_scoped0.sem) 0 ∗ Owe (F := F) d L O W
        ∗ Free d L inp idx q0 q1 cc0_scratch4.sem 0) ⊢ WP d L
    (k0_part10 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1)
    fun _ => iprop(pC d L cnt (bat L) ∗ (hC.view.loc (thr d L) ↦{qc} cnt) ∗ semVal (thr d L, .dma cc0_scoped0.sem) 0 ∗ Owe (F := F) d L O W
      ∗ InFlight d L inp idx (bat L) (grp L) q0 q1 cc0_scratch4.sem 0 0) := by
  rw [k0_part10_eq_skeleton]; unfold k0_part10_skel
  simp only [Prog.lift, Prog.bind_op, Prog.bind_ret, Prog.pure_eq_ret]
  iintro ⟨#Hlv, HC, Hs, Hz, HO, HF⟩
  iapply (copyC hO0 (fun a => by rw [off2_eq])) $$ [HC Hs Hz HO]
  · isplitl []; · iexact Hlv
    isplitl [HC]; · iexact HC
    isplitl [Hs]; · iexact Hs
    isplitl [Hz]; · iexact Hz
    iexact HO
  iintro ⟨HC, Hs, Hz, HO⟩
  iapply (fire (b := bat L) (g := grp L) (t := 0) (off3_eq L 0) (fun _ => rfl) (off4_eq L 0) (fun _ => rfl)) $$ HF
  iintro HF
  iapply ret_WP
  isplitl [HC]; · iexact HC
  isplitl [Hs]; · iexact Hs
  isplitl [Hz]; · iexact Hz
  isplitl [HO]; · iexact HO
  iexact HF

set_option maxRecDepth 16384 in
theorem part11 (hO0 : ∀ c, O c none = 0) (hidx : ∀ e, (idx e &&& 511#32).toNat < 384) (a1 a2 : BitVec 32) :
    iprop(levAts (K (F := F)).L (K (F := F)).lev ∗ InFlight d L inp idx (bat L) (grp L) q0 q1 cc0_scratch4.sem 0 0 ∗ Free d L inp idx r0 r1 cc0_scratch5.sem 1
        ∗ Owe d L O W ∗ pA d L inp idx (bat L) (grp L) 0 ∗ pC d L cnt (bat L)
        ∗ (∃ f : S147456.Idx → F .f32, hO.view.loc (thr d L) ↦[piece (wid L)]{fullShare} f) ∗ semVal (thr d L, .dma cc0_scoped1.sem) 0) ⊢ WP d L
    (k0_part11 L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1 a1 a2)
    fun _ => iprop(Idle d L inp idx q0 q1 r0 r1 ∗ Owe d L O W ∗ pC d L cnt (bat L) ∗ OutFlight d L inp idx cnt cc0_scoped1.sem) := by
  rw [k0_part11_eq_skeleton]; unfold k0_part11_skel
  simp only [Prog.lift, Prog.bind_op, Prog.bind_ret, Prog.pure_eq_ret]
  iintro ⟨#Hlv, H0, H1, HO, HA, HC, HP, Hz⟩
  iapply (fire (b := bat L) (g := grp L) (t := 1) (off3_eq L 1) (fun _ => rfl) (off4_eq L 1) (fun _ => rfl)) $$ H1
  iintro H1
  iapply (part_WP (pairs hO0 hidx a1 a2)) $$ [H0 H1 HO HA]
  · unfold Tile.Inv Slot
    rw [if_pos (show 2 * 0 < 48 by decide), if_pos (show 2 * 0 + 1 < 48 by decide)]
    isplitl []; · iexact Hlv
    isplitl [H0]; · iexact H0
    isplitl [H1]; · iexact H1
    isplitl [HO]; · iexact HO
    iexact HA
  iintro %_ H
  unfold Tile.Inv Slot
  rw [if_neg (show ¬ 2 * 24 < 48 by decide), if_neg (show ¬ 2 * 24 + 1 < 48 by decide)]
  icases H with ⟨-, H0, H1, HO, HA⟩
  iapply (part_WP (divide a1 a2)) $$ [HC HA]
  · isplitl [HC]; · iexact HC
    iexact HA
  iintro %_ ⟨HC, HA⟩
  iapply (fireO (off40_eq L) rfl) $$ [HA HP Hz]
  · isplitl [HA]; · iexact HA
    isplitl [HP]; · iexact HP
    iexact Hz
  iintro HF
  iapply ret_WP
  unfold Idle
  isplitl [H0 H1]
  · isplitl [H0]; · iexact H0
    iexact H1
  isplitl [HO]; · iexact HO
  isplitl [HC]; · iexact HC
  iexact HF

set_option maxRecDepth 16384 in
/-- The tile's program: its piece of the output is the kernel's result there, everything else is as it was. -/
theorem body (hO0 : ∀ c, O c none = 0) (hidx : ∀ e, (idx e &&& 511#32).toNat < 384) :
    iprop(levAts (K (F := F)).L (K (F := F)).lev ∗ Src d L inp idx cnt q0 q1 r0 r1 qc
        ∗ (∃ f : S147456.Idx → F .f32, hO.view.loc (thr d L) ↦[piece (wid L)]{fullShare} f) ∗ Scr (F := F) d L ∗ Sems (F := F) d L ∗ Owe (F := F) d L O W) ⊢ WP d L
    (cc0__body L hX (Memref.isWhole_whole _) hI (Memref.isWhole_whole _) hC (Memref.isWhole_whole _) hO (Memref.isWhole_whole _)
        bI (Memref.isWhole_whole _) bX (Memref.isWhole_whole _) bA (Memref.isWhole_whole _) bC (Memref.isWhole_whole _)
        cc0_scratch4 cc0_scratch5 cc0_scoped0 cc0_scoped1)
    fun _ => iprop(Src d L inp idx cnt q0 q1 r0 r1 qc
      ∗ (hO.view.loc (thr d L) ↦[piece (wid L)]{fullShare} (outOf inp idx cnt : S147456.Idx → F .f32)) ∗ Scr (F := F) d L ∗ Sems (F := F) d L ∗ Owe (F := F) d L O W) := by
  rw [cc0__body_eq_skeleton]; unfold cc0__body_skel Src Scr Sems
  simp only [Prog.lift, Prog.bind_op, Prog.bind_ret, Prog.pure_eq_ret]
  iintro ⟨#Hlv, ⟨S0, S1, S2, S3, S4⟩, HP, ⟨BI, BX, BA, BC⟩, ⟨Z0, Z1, Z2, Z3⟩, HO⟩
  ihave HI := idle_intro $$ [BI BX S0 S1 S2 S3 Z0 Z1]
  · isplitl [BI]; · iexact BI
    isplitl [BX]; · iexact BX
    isplitl [S0]; · iexact S0
    isplitl [S1]; · iexact S1
    isplitl [S2]; · iexact S2
    isplitl [S3]; · iexact S3
    isplitl [Z0]; · iexact Z0
    iexact Z1
  unfold Idle
  icases HI with ⟨H0, H1⟩
  iapply (part_WP (part9 (inp := inp) (idx := idx))) $$ BA
  iintro %r HA
  iapply (part_WP (part10 (inp := inp) (idx := idx) (q0 := q0) (q1 := q1) (cnt := cnt) (qc := qc) (W := W) hO0 r.1)) $$ [BC S4 Z2 HO H0]
  · isplitl []; · iexact Hlv
    isplitl [BC]; · iexact BC
    isplitl [S4]; · iexact S4
    isplitl [Z2]; · iexact Z2
    isplitl [HO]; · iexact HO
    iexact H0
  iintro %_ ⟨HC, S4, Z2, HO, H0⟩
  iapply (part_WP (part11 (inp := inp) (idx := idx) (q0 := q0) (q1 := q1) (r0 := r0) (r1 := r1) (cnt := cnt) (W := W) hO0 hidx r.1 r.2)) $$ [HC HO H0 H1 HA HP Z3]
  · isplitl []; · iexact Hlv
    isplitl [H0]; · iexact H0
    isplitl [H1]; · iexact H1
    isplitl [HO]; · iexact HO
    isplitl [HA]; · iexact HA
    isplitl [HC]; · iexact HC
    isplitl [HP]; · iexact HP
    iexact Z3
  iintro %_ ⟨HI, HO, HC, HF⟩
  iapply (awaitO hO0) $$ [HF HO]
  · isplitl []; · iexact Hlv
    isplitl [HF]; · iexact HF
    iexact HO
  iintro ⟨HP, BA, Z3, HO⟩
  ihave HI := idle_elim $$ HI
  icases HI with ⟨BI, BX, S0, S1, S2, S3, Z0, Z1⟩
  unfold pC
  icases HC with ⟨%fc, -, HC⟩
  iapply ret_WP
  isplitl [S0 S1 S2 S3 S4]
  · isplitl [S0]; · iexact S0
    isplitl [S1]; · iexact S1
    isplitl [S2]; · iexact S2
    isplitl [S3]; · iexact S3
    iexact S4
  isplitl [HP]; · iexact HP
  isplitl [BI BX BA HC]
  · isplitl [BI]; · iexact BI
    isplitl [BX]; · iexact BX
    isplitl [BA]; · iexact BA
    iexists fc; iexact HC
  isplitl [Z0 Z1 Z2 Z3]
  · isplitl [Z0]; · iexact Z0
    isplitl [Z1]; · iexact Z1
    isplitl [Z2]; · iexact Z2
    iexact Z3
  iexact HO

end Cert.Proof.Body

end

end
-- ==== Proof.Task.lean ====
/-
  The tile's task under the launch: what the handshakes carry to a tile and back, the tile's own buffers and
  semaphores, and the obligation that its program meets.
-/
module

public import proofs.«01_k».proof.Proof.Body

@[expose] public section

noncomputable section

namespace Cert.Proof.Task

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves Cert.Proof.Setup

variable {F : FTy → Type} [FloatOps F]

local notation "𝕄" => MT nD τ sig (HIx 1) (Elt F) ℕ UU ℕ

open Cert.Proof.Copies Cert.Proof.Loops Cert.Proof.Tile Cert.Proof.Body
open Idealize.ShloMosaic.Transfers
open Idealize.ShloMosaic.SparseCore.Cfg (ownBufs ownSems0 ownCells mem_ownCells ownRefs mem_ownRefs)

variable (m : (ℓ : Loc nD τ sig) → Buf (Elt F) ℓ)

/-! ## The arrays and what they hold at the call -/

abbrev xLoc (d : Dev nD) : Loc nD τ sig := (SparseCore.T d).loc main_arg0
abbrev iLoc (d : Dev nD) : Loc nD τ sig := (SparseCore.T d).loc main_v4
abbrev cLoc (d : Dev nD) : Loc nD τ sig := (SparseCore.T d).loc main_v5
abbrev oLoc (d : Dev nD) : Loc nD τ sig := (SparseCore.T d).loc main_v6

/-- The words the kernel reads: the index, its top bit set where the pixel does not count. -/
def idxOf (ind val : S4x384x384.Idx → BitVec 32) : S4x384x384.Idx → BitVec 32 :=
  select (cmpi .sgt val (broadcastInDim S4x384x384 ![] bcast_S_S4x384x384 (constantI S_ 32 0#32))) ind
    (ori ind (broadcastInDim S4x384x384 ![] bcast_S_S4x384x384 (constantI S_ 32 2147483648#32)))

/-- The counts in one row. -/
def cntOf (c : S4x384.Idx → F .f32) : S1536.Idx → F .f32 := fun i => shapeCast S1536 c shapeCasts_S4x384_S1536 i

abbrev inpV (d : Dev nD) : S4x96x384x384.Idx → F .f32 := m (xLoc d)
def idxV (d : Dev nD) : S4x384x384.Idx → BitVec 32 := idxOf (m ((SparseCore.T d).loc main_arg2)) (m ((SparseCore.T d).loc main_arg3))
def cntV (d : Dev nD) : S1536.Idx → F .f32 := cntOf (m ((SparseCore.T d).loc main_arg1))
def outV (d : Dev nD) : S147456.Idx → F .f32 := outOf (inpV m d) (idxV m d) (cntV m d)

/-- The indices in range, as the kernel reads them. -/
def PreOK : Prop := ∀ (d : Dev nD) (e : S4x384x384.Idx), (idxV m d e &&& 511#32).toNat < 384

/-! ## What the handshakes carry -/

/-- Tile `w`'s share of an array that all the tiles read. -/
abbrev tok (w : Fin 32) : PosShare TreeShare := shareTok fullShare 32 w

/-- What tile `w` reads. -/
def Read (d : Dev nD) (w : Fin 32) : sProp 𝕄 :=
  iprop((xLoc d ↦{tok w} inpV m d) ∗ (iLoc d ↦{tok w} idxV m d) ∗ (cLoc d ↦{tok w} cntV m d))
/-- Tile `w`'s piece of the output, at contents `f`. -/
def Piece (d : Dev nD) (w : Fin 32) (f : S147456.Idx → F .f32) : sProp 𝕄 := oLoc d ↦[piece w.val]{fullShare} f

theorem nSub_zero : (K (F := F)).nSub 0 = 16 := rfl
theorem nCore_zero : (K (F := F)).nCore 0 = 2 := rfl

/-- The tile at SparseCore `c`, subcore `i`. -/
def tileNo (c : Fin ((K (F := F)).nCore 0)) (i : Fin ((K (F := F)).nSub 0)) : Fin 32 :=
  ⟨16 * c.val + i.val, by have hc : c.val < 2 := c.isLt; have hi : i.val < 16 := i.isLt; omega⟩

def Go (d : Dev nD) (w : Fin 32) : sProp 𝕄 := iprop(Read m d w ∗ Piece d w (m (oLoc d)))
def Td (d : Dev nD) (w : Fin 32) : sProp 𝕄 := iprop(Read m d w ∗ Piece d w (outV m d))

instance Go_storable (d : Dev nD) (w : Fin 32) : BI.Storable (upEmb : UEmb _ 𝕄) (Go m d w) := by
  unfold Go Read Piece; infer_instance
instance Td_storable (d : Dev nD) (w : Fin 32) : BI.Storable (upEmb : UEmb _ 𝕄) (Td m d w) := by
  unfold Td Read Piece; infer_instance

def P : (K (F := F)).Pay (nD := nD) (Val := Elt F) (Name := ℕ) (U := UU) where
  st := fun q d c => match q with | 0 => bigSep Finset.univ fun i => Go m d (tileNo c i)
  dn := fun q d c => match q with | 0 => bigSep Finset.univ fun i => Td m d (tileNo c i)
  go := fun q d c i => match q with | 0 => Go m d (tileNo c i)
  td := fun q d c i => match q with | 0 => Td m d (tileNo c i)
  x := fun _ _ => iprop(emp)

instance P_storable : (P (F := F) m).IsStorable where
  st q d c := match q with
    | 0 => (inferInstance : BI.Storable (upEmb : UEmb _ 𝕄) (bigSep Finset.univ fun i => Go m d (tileNo c i)))
  dn q d c := match q with
    | 0 => (inferInstance : BI.Storable (upEmb : UEmb _ 𝕄) (bigSep Finset.univ fun i => Td m d (tileNo c i)))
  go q d c i := match q with
    | 0 => (inferInstance : BI.Storable (upEmb : UEmb _ 𝕄) (Go m d (tileNo c i)))
  td q d c i := match q with
    | 0 => (inferInstance : BI.Storable (upEmb : UEmb _ 𝕄) (Td m d (tileNo c i)))

/-! ## The tile's own buffers and semaphores -/

section Own

variable (d : Dev nD) (L : grid0.Coords)

theorem group4_mp (A B C D R : sProp 𝕄) : iprop((A ∗ B ∗ C ∗ D) ∗ R) ⊢ iprop(A ∗ B ∗ C ∗ D ∗ R) := by
  iintro ⟨⟨A, B, C, D⟩, R⟩
  isplitl [A]; · iexact A
  isplitl [B]; · iexact B
  isplitl [C]; · iexact C
  isplitl [D]; · iexact D
  iexact R

theorem group4_mpr (A B C D R : sProp 𝕄) : iprop(A ∗ B ∗ C ∗ D ∗ R) ⊢ iprop((A ∗ B ∗ C ∗ D) ∗ R) := by
  iintro ⟨A, B, C, D, R⟩
  isplitr [R]
  · isplitl [A]; · iexact A
    isplitl [B]; · iexact B
    isplitl [C]; · iexact C
    iexact D
  iexact R

/-- Four and the rest, grouped. -/
theorem group4 (A B C D R : sProp 𝕄) : iprop((A ∗ B ∗ C ∗ D) ∗ R) = iprop(A ∗ B ∗ C ∗ D ∗ R) :=
  equiv_iff.mp ⟨group4_mp A B C D R, group4_mpr A B C D R⟩

/-- A vector subcore's semaphore is one of its own. -/
theorem own_cell {s : DmaSem sig} (h : (SemLoc.dma s : SemLoc sig).isScoped .scVector = true) :
    ((thr d L, .dma s) : GSem nD τ sig) ∈ ownCells (thr d L) := mem_ownCells.mpr ⟨rfl, h⟩

theorem cell_ne {s s' : DmaSem sig} (h : s ≠ s') : ((thr d L, .dma s) : GSem nD τ sig) ≠ (thr d L, .dma s') := by
  intro e
  exact h (SemLoc.dma.inj (congrArg Prod.snd e))

theorem ownSems0_V : ∃ R : sProp 𝕄, (ownSems0 (thr d L) : sProp 𝕄) = iprop(Body.Sems (F := F) d L ∗ R) := by
  refine ⟨bigSep (((((ownCells (thr d L)).erase (thr d L, .dma cc0_scratch4.sem)).erase (thr d L, .dma cc0_scratch5.sem)).erase
    (thr d L, .dma cc0_scoped0.sem)).erase (thr d L, .dma cc0_scoped1.sem)) fun g => semVal g 0, ?_⟩
  unfold SparseCore.Cfg.ownSems0 Body.Sems
  rw [SparseCore.bigSep_erase' (own_cell d L (s := cc0_scratch4.sem) (by decide)),
    SparseCore.bigSep_erase' (Finset.mem_erase.mpr ⟨cell_ne d L (by decide), own_cell d L (s := cc0_scratch5.sem) (by decide)⟩),
    SparseCore.bigSep_erase' (Finset.mem_erase.mpr ⟨cell_ne d L (by decide), Finset.mem_erase.mpr ⟨cell_ne d L (by decide), own_cell d L (s := cc0_scoped0.sem) (by decide)⟩⟩),
    SparseCore.bigSep_erase' (Finset.mem_erase.mpr ⟨cell_ne d L (by decide), Finset.mem_erase.mpr ⟨cell_ne d L (by decide), Finset.mem_erase.mpr ⟨cell_ne d L (by decide),
      own_cell d L (s := cc0_scoped1.sem) (by decide)⟩⟩⟩), group4]

/-- A vector subcore's scratch buffer is one of its own. -/
theorem own_ref {b : Ref sig .scVector} (h : ((Proc.scVector (cV L) (jV L)).devRef b).owner = .proc (.scVector (cV L) (jV L))) :
    (Proc.scVector (cV L) (jV L)).devRef b ∈ ownRefs (τ := τ) (.scVector (cV L) (jV L)) := SparseCore.Cfg.mem_ownRefs_of_owner h

theorem ref_ne {b b' : Ref sig .scVector} (h : b ≠ b') : (Proc.scVector (cV L) (jV L)).devRef b ≠ (Proc.scVector (cV L) (jV L)).devRef b' :=
  fun e => h (Proc.devRef_injective _ e)

theorem ownBufs_V : ∃ R : sProp 𝕄, (ownBufs (thr d L) : sProp 𝕄) = iprop(Scr (F := F) d L ∗ R) := by
  refine ⟨bigSep (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)) fun b => iprop(∃ f, ((d, b) : Loc nD τ sig) ↦{fullShare} f), ?_⟩
  unfold SparseCore.Cfg.ownBufs Scr
  refine (SparseCore.bigSep_erase' (own_ref L (b := cc0_scratch0) rfl)).trans ?_
  rw [SparseCore.bigSep_erase' (Finset.mem_erase.mpr ⟨ref_ne L (by decide), own_ref L (b := cc0_scratch1) rfl⟩),
    SparseCore.bigSep_erase' (Finset.mem_erase.mpr ⟨ref_ne L (by decide), Finset.mem_erase.mpr ⟨ref_ne L (by decide), own_ref L (b := cc0_scratch2) rfl⟩⟩),
    SparseCore.bigSep_erase' (Finset.mem_erase.mpr ⟨ref_ne L (by decide), Finset.mem_erase.mpr ⟨ref_ne L (by decide), Finset.mem_erase.mpr ⟨ref_ne L (by decide),
      own_ref L (b := cc0_scratch3) rfl⟩⟩⟩), group4]
  rfl

end Own

/-! ## The task -/

section Tile

variable (d : Dev nD) (L : grid0.Coords)

/-- The tile of coordinates `L`. -/
def tileL (L : grid0.Coords) : Fin 32 := ⟨wid L, wid_lt L⟩

/-- Each of the two slots reads by one half of the tile's share. -/
theorem read_split (w : Fin 32) : Read m d w
    ⊢ Src d L (inpV m d) (idxV m d) (cntV m d) (tok w).left (tok w).left (tok w).right (tok w).right (tok w) := by
  unfold Read Src
  iintro ⟨HX, HI, HC⟩
  ihave HX := (pointsTo_share (PosShare.mem_left_op_right (tok w))).1 $$ HX
  ihave HI := (pointsTo_share (PosShare.mem_left_op_right (tok w))).1 $$ HI
  icases HX with ⟨X0, X1⟩
  icases HI with ⟨I0, I1⟩
  isplitl [I0]; · iexact I0
  isplitl [X0]; · iexact X0
  isplitl [I1]; · iexact I1
  isplitl [X1]; · iexact X1
  iexact HC

theorem read_join (w : Fin 32) :
    Src d L (inpV m d) (idxV m d) (cntV m d) (tok w).left (tok w).left (tok w).right (tok w).right (tok w) ⊢ Read m d w := by
  unfold Read Src
  iintro ⟨I0, X0, I1, X1, HC⟩
  isplitl [X0 X1]
  · iapply (pointsTo_share (PosShare.mem_left_op_right (tok w))).2
    isplitl [X0]; · iexact X0
    iexact X1
  isplitl [I0 I1]
  · iapply (pointsTo_share (PosShare.mem_left_op_right (tok w))).2
    isplitl [I0]; · iexact I0
    iexact I1
  iexact HC

theorem tile_body (hpre : PreOK m) (O : CellTallies nD τ sig (HIx 1)) (W : Waits sig (HIx 1)) (hO0 : ∀ g, O g none = 0) :
    iprop(levAts (K (F := F)).L (K (F := F)).lev ∗ emp ∗ Go m d (tileL L) ∗ scopedBufs (thr d L) ∗ scopedSems0 (thr d L) ∗ owes (thr d L) O W)
      ⊢ wp frame (wpE (defs₀ (F := F)) 𝒱₀ (thr d L) none) Set.univ
          (cc0__body L hX (Memref.isWhole_whole _) hI (Memref.isWhole_whole _) hC (Memref.isWhole_whole _) hO (Memref.isWhole_whole _)
            bI (Memref.isWhole_whole _) bX (Memref.isWhole_whole _) bA (Memref.isWhole_whole _) bC (Memref.isWhole_whole _)
            cc0_scratch4 cc0_scratch5 cc0_scoped0 cc0_scoped1)
          fun _ => iprop(Td m d (tileL L) ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RB, hB⟩ := ownBufs_V (F := F) d L
  obtain ⟨RS, hS⟩ := ownSems0_V (F := F) d L
  rw [(K (F := F)).scopedBufs_V facts d (cV L) (jV L), SparseCore.Cfg.scopedSems0_V (Val := Elt F) d (cV L) (jV L), hB, hS]
  unfold Go Td
  iintro ⟨#Hlv, -, ⟨HR, HP⟩, ⟨HB, HB'⟩, ⟨HS, HS'⟩, HO⟩
  ihave HR := (read_split m d L (tileL L)) $$ HR
  iapply wp_wand $$ [HR HP HB HS HO]
  · iapply (body (W := W) hO0 (hpre d))
    isplitl []; · iexact Hlv
    isplitl [HR]; · iexact HR
    isplitl [HP]
    · iexists (m (oLoc d) : S147456.Idx → F .f32)
      unfold Piece
      iexact HP
    isplitl [HB]; · iexact HB
    isplitl [HS]; · iexact HS
    unfold Owe
    iexists W
    isplitr
    · ipureintro; exact fun p hp => .inl hp
    · iexact HO
  iintro %_ ⟨HR, HP, HB, HS, HO⟩
  ihave HR := (read_join m d L (tileL L)) $$ HR
  isplitl [HR HP]
  · isplitl [HR]; · iexact HR
    unfold Piece
    iexact HP
  isplitl [HB HB']
  · isplitl [HB]; · iexact HB
    iexact HB'
  isplitl [HS HS']
  · isplitl [HS]; · iexact HS
    iexact HS'
  unfold Owe
  icases HO with ⟨%W', %hW', HO⟩
  iexists W'
  isplitr
  · ipureintro; exact fun p hp => (hW' p hp).imp_right Or.inl
  · iexact HO

/-- The coordinates of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          hX (Memref.isWhole_whole _) hI (Memref.isWhole_whole _) hC (Memref.isWhole_whole _) hO (Memref.isWhole_whole _)
            bI (Memref.isWhole_whole _) bX (Memref.isWhole_whole _) bA (Memref.isWhole_whole _) bC (Memref.isWhole_whole _)
            cc0_scratch4 cc0_scratch5 cc0_scoped0 cc0_scoped1) ⟨⟩ c s := rfl

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hpre O W hO

end Tile

end Cert.Proof.Task

end

end
-- ==== Proof.Range.lean ====
/-
  What the precondition says of single words: every index is a label, every flag is 0 or 1; and what the index words
  that the kernel reads then are.
-/
module

public import proofs.«01_k».proof.Proof.Task
public import proofs.«01_k».proof.Pre_in_range
public import Idealize.ShloMosaic.Lib.ReduceAll
public import Idealize.ShloMosaic.Lib.StableHlo.Predicate

@[expose] public section

noncomputable section

namespace Cert.Proof.Range

open Cert.KernelIdeal Cert.KernelIdeal.Gen
open Idealize.ShloMosaic
open Cert.Proof.Model Cert.Proof.Task

/-! ## Words -/

/-- A word that is at least 0 and below `n`, both read signed, is below `n` read unsigned. -/
theorem word_lt {w : BitVec 32} {n : ℕ} (hn : n < 2 ^ 31) (h0 : IntOp.cmpi .sge w 0#32 = 1#1)
    (h1 : IntOp.cmpi .slt w (BitVec.ofNat 32 n) = 1#1) : w.toNat < n := by
  simp only [IntOp.cmpi, StableHlo.Predicate.ofBool_eq_one_iff, BitVec.sle, BitVec.slt, decide_eq_true_eq,
    StableHlo.Predicate.toInt_ofNat_small n hn] at h0 h1
  have e : (0#32 : BitVec 32).toInt = 0 := by decide
  rw [e] at h0
  rw [BitVec.toInt_eq_toNat_cond] at h0 h1
  split at h0 <;> rename_i hc
  · rw [if_pos hc] at h1; omega
  · have := w.isLt; omega

/-- A label with or without the top bit: the low nine bits are the label, and the sign tells which. -/
theorem word_top : ∀ n : Fin 384,
    (IntOp.ori (BitVec.ofNat 32 n.val) 2147483648#32 &&& 511#32) = BitVec.ofNat 32 n.val
      ∧ (BitVec.ofNat 32 n.val &&& 511#32) = BitVec.ofNat 32 n.val
      ∧ IntOp.cmpi .sge (IntOp.ori (BitVec.ofNat 32 n.val) 2147483648#32) 0#32 ≠ 1#1
      ∧ IntOp.cmpi .sge (BitVec.ofNat 32 n.val) 0#32 = 1#1 := by decide +kernel

/-! ## The precondition -/

theorem one_index (a b : (⟨0, ![]⟩ : Shape).Idx) : a = b := funext fun x => x.elim0

section

variable {F : FTy → Type} [FloatOps F] [Cert.Pre_in_range.Facts]

/-- The precondition, word by word. -/
theorem words_ok {x : S4x96x384x384.Idx → F .f32} {c : S4x384.Idx → F .f32} {ind val : S4x384x384.Idx → BitVec 32}
    (h : Cert.Pre_in_range.fn (F := F) x c ind val = fun _ => 1#1) (e : S4x384x384.Idx) :
    (ind e).toNat < 384 ∧ (val e).toNat < 2 := by
  haveI : Subsingleton Cert.Pre_in_range.S_.Idx := ⟨one_index⟩
  have h := congrFun h (fun a => a.elim0)
  obtain ⟨h123, h4⟩ := IntOp.andi_eq_one.1 h
  obtain ⟨h12, h3⟩ := IntOp.andi_eq_one.1 h123
  obtain ⟨h1, h2⟩ := IntOp.andi_eq_one.1 h12
  exact ⟨word_lt (by norm_num) (Host.reduce_andi_all _ _ _ _ _ h1 e) (Host.reduce_andi_all _ _ _ _ _ h2 e),
    word_lt (by norm_num) (Host.reduce_andi_all _ _ _ _ _ h3 e) (Host.reduce_andi_all _ _ _ _ _ h4 e)⟩

end

/-! ## The words that the kernel reads -/

variable {ind val : S4x384x384.Idx → BitVec 32} {e : S4x384x384.Idx}

/-- A flag of 1 keeps the index word, a flag of 0 sets its top bit. -/
theorem idxOf_word (hv : (val e).toNat < 2) :
    idxOf ind val e = if (val e).toNat = 1 then ind e else IntOp.ori (ind e) 2147483648#32 := by
  show (if IntOp.cmpi .sgt (val e) 0#32 = 1#1 then ind e else IntOp.ori (ind e) 2147483648#32) = _
  refine if_congr ?_ rfl rfl
  rw [StableHlo.Predicate.sgt_iff_toNat (by omega) (by norm_num)]
  show 0 < _ ↔ _
  omega

theorem idxOf_low (hi : (ind e).toNat < 384) (hv : (val e).toNat < 2) : (idxOf ind val e &&& 511#32) = ind e := by
  obtain ⟨n, hn⟩ : ∃ n : Fin 384, ind e = BitVec.ofNat 32 n.val := ⟨⟨_, hi⟩, by simp⟩
  rw [idxOf_word hv]
  split <;> rw [hn]
  · exact (word_top n).2.1
  · exact (word_top n).1

/-- A pixel counts towards label `l` exactly when its flag is 1 and its index is `l`. -/
theorem hit_iff (hi : (ind e).toNat < 384) (hv : (val e).toNat < 2) (l : ℕ) :
    Hit (idxOf ind val e) l ↔ (val e).toNat = 1 ∧ (ind e).toNat = l := by
  unfold Hit
  rw [idxOf_low hi hv]
  refine and_congr_left fun _ => ?_
  obtain ⟨n, hn⟩ : ∃ n : Fin 384, ind e = BitVec.ofNat 32 n.val := ⟨⟨_, hi⟩, by simp⟩
  rw [idxOf_word hv, hn]
  split <;> rename_i h
  · exact iff_of_true (word_top n).2.2.2 h
  · exact iff_of_false (word_top n).2.2.1 h

/-- The kernel's own condition on the words it reads. -/
theorem low_lt (hi : (ind e).toNat < 384) (hv : (val e).toNat < 2) : (idxOf ind val e &&& 511#32).toNat < 384 := by
  rw [idxOf_low hi hv]; exact hi

end Cert.Proof.Range

end

end
-- ==== Proof.Sum.lean ====
/-
  Sums of extended reals: the kernel's accumulator is a sum over the pixels, and a sum over the pixels in a tile's order
  is the sum over image rows and columns.
-/
module

public import proofs.«01_k».proof.Proof.Model
public import Idealize.ShloMosaic.PureOps.Ideal.Laws
public import Mathlib.Algebra.BigOperators.Intervals

@[expose] public section

noncomputable section

namespace Cert.Proof.Sum

open Idealize.ShloMosaic
open Cert.Proof.Offsets Cert.Proof.Model

/-- An accumulator after `n` pixels is the sum of the pixels that counted. -/
theorem cell_sum (w : ℕ → BitVec 32) (x : ℕ → EReal) (l n : ℕ) :
    cell (F := Ideal) zero32 w x l n = ∑ q ∈ Finset.range n, if Hit (w q) l then x q else 0 := by
  induction n with
  | zero => simp only [cell, Finset.range_zero, Finset.sum_empty]; exact Ideal.ofBits_zero_f32
  | succ n ih =>
    rw [Finset.sum_range_succ, cell]
    split
    · rw [ih]; rfl
    · rw [ih, add_zero]

/-- A sum over `a * b` numbers, by rows of `b`. -/
theorem sum_rows (a b : ℕ) (f : ℕ → EReal) :
    ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- Every tile meets every pixel of the image once. -/
theorem sum_pixels {g : ℕ} (hg : g < 8) (f : ℕ → ℕ → EReal) :
    ∑ q ∈ Finset.range 147456, f (pixH g q) (pixW q)
      = ∑ h ∈ Finset.range 384, ∑ w ∈ Finset.range 384, f h w := by
  rw [← Finset.sum_product' (Finset.range 384) (Finset.range 384) f]
  refine Finset.sum_nbij' (fun q => (pixH g q, pixW q))
    (fun p => 3072 * ((p.1 / 8 + (48 - 6 * g)) % 48) + p.1 % 8 * 384 + p.2) ?_ ?_ ?_ ?_ ?_
  · intro q _
    exact Finset.mem_product.2 ⟨Finset.mem_range.2 (pixH_lt g q), Finset.mem_range.2 (pixW_lt q)⟩
  · rintro ⟨h, w⟩ hp
    have := Finset.mem_range.1 (Finset.mem_product.1 hp).1
    have := Finset.mem_range.1 (Finset.mem_product.1 hp).2
    simp only at *
    exact Finset.mem_range.2 (by omega)
  · intro q hq
    have := Finset.mem_range.1 hq
    simp only [pixH, pixW, hrow]
    omega
  · rintro ⟨h, w⟩ hp
    have := Finset.mem_range.1 (Finset.mem_product.1 hp).1
    have := Finset.mem_range.1 (Finset.mem_product.1 hp).2
    simp only [pixH, pixW, hrow] at *
    refine Prod.ext ?_ ?_ <;> simp only <;> omega
  · intro q _; rfl

/-- The same, read by the pixel's place in the image. -/
theorem sum_image {g : ℕ} (hg : g < 8) (f : ℕ → ℕ → EReal) :
    ∑ q ∈ Finset.range 147456, f (pixH g q) (pixW q) = ∑ p ∈ Finset.range 147456, f (p / 384) (p % 384) := by
  rw [sum_pixels hg, show (147456 : ℕ) = 384 * 384 by norm_num, sum_rows]
  refine Finset.sum_congr rfl fun h _ => Finset.sum_congr rfl fun w hw => ?_
  have := Finset.mem_range.1 hw
  rw [show (h * 384 + w) / 384 = h by omega, show (h * 384 + w) % 384 = w by omega]

end Cert.Proof.Sum

end

end
-- ==== Proof.RefValue.lean ====
/-
  The reference's result as a term of its arguments, and what its parts are at one index: the word that says where an
  update lands, the update, and the count that a sum is divided by.
-/
module

public import proofs.«01_k».proof.Proof.Model
public import proofs.«01_k».proof.Proof.Gen.ReferenceIdeal.Run
public import Idealize.ShloMosaic.Lib.Pipeline.Value
public import Idealize.ShloMosaic.Lib.StableHlo.Predicate
public import Idealize.ShloMosaic.PureOps.Ideal.Laws

@[expose] public section

noncomputable section

namespace Cert.Proof.RefValue

open Cert.ReferenceIdeal Cert.ReferenceIdeal.Gen
open Idealize.ShloMosaic
open Cert.Proof.Model (ixm eq_ixm pos_inp pos_idx)

/-! ## The terms -/

/-- The first segment of each row. -/
def rowBase : S4x96.Idx → BitVec 32 :=
  muli (addi (broadcastInDim S4x96 ![0, 1] bcast_S4x1_S4x96_0_1 (muli (broadcastInDim S4x1 ![0] bcast_S4_S4x1_0 (iotaInDim S4 32 0))
      (broadcastInDim S4x1 ![] bcast_S_S4x1 (constantI S_ 32 96#32))))
    (broadcastInDim S4x96 ![0, 1] bcast_S1x96_S4x96_0_1 (broadcastInDim S1x96 ![1] bcast_S96_S1x96_1 (iotaInDim S96 32 0))))
    (broadcastInDim S4x96 ![] bcast_S_S4x96 (constantI S_ 32 384#32))

/-- The segment that each pixel of each channel belongs to. -/
def segOf (ind : S4x384x384.Idx → BitVec 32) : S4x96x384x384.Idx → BitVec 32 :=
  addi (broadcastInDim S4x96x384x384 ![0, 1, 2, 3] bcast_S4x96x1x1_S4x96x384x384_0_1_2_3
      (broadcastInDim S4x96x1x1 ![0, 1] bcast_S4x96_S4x96x1x1_0_1 rowBase))
    (broadcastInDim S4x96x384x384 ![0, 1, 2, 3] bcast_S4x1x384x384_S4x96x384x384_0_1_2_3
      (broadcastInDim S4x1x384x384 ![0, 2, 3] bcast_S4x384x384_S4x1x384x384_0_2_3 ind))

/-- The segments in one row. -/
def segRow (ind : S4x384x384.Idx → BitVec 32) : S56623104.Idx → BitVec 32 := shapeCast _ (segOf ind) shapeCasts_S4x96x384x384_S56623104

/-- The scatter's index words: a negative segment is counted from the end. -/
def segCol (ind : S4x384x384.Idx → BitVec 32) : S56623104x1.Idx → BitVec 32 :=
  broadcastInDim S56623104x1 ![0] bcast_S56623104_S56623104x1_0
    (select (cmpi .slt (segRow ind) (broadcastInDim S56623104 ![] bcast_S_S56623104 (constantI S_ 32 0#32)))
      (addi (segRow ind) (broadcastInDim S56623104 ![] bcast_S_S56623104 (constantI S_ 32 147456#32))) (segRow ind))

/-- The scatter's updates: the input times the flag. -/
def updRow (x : S4x96x384x384.Idx → EReal) (val : S4x384x384.Idx → BitVec 32) : S56623104.Idx → EReal :=
  shapeCast _ (mulf (F := Ideal) (φ := .f32) x (broadcastInDim S4x96x384x384 ![0, 1, 2, 3] bcast_S4x1x384x384_S4x96x384x384_0_1_2_3
    (sitofp .f32 (broadcastInDim S4x1x384x384 ![0, 2, 3] bcast_S4x384x384_S4x1x384x384_0_2_3 val)))) shapeCasts_S4x96x384x384_S56623104

/-- The zeros that the scatter adds to. -/
def zeros : S147456.Idx → EReal := broadcastInDim S147456 ![] bcast_S_S147456 (constant (F := Ideal) S_ .f32 0x00000000#32)

/-- The sums, one for each segment. -/
def sums (x : S4x96x384x384.Idx → EReal) (ind val : S4x384x384.Idx → BitVec 32) : S147456.Idx → EReal :=
  Ideal.hostScatterAdd scatter_S147456_S56623104x1_S56623104_n_0_0_1 zeros (segCol ind) (updRow x val)

/-- The reference's result. -/
def refV (x : S4x96x384x384.Idx → EReal) (c : S4x384.Idx → EReal) (ind val : S4x384x384.Idx → BitVec 32) : S4x96x384.Idx → EReal :=
  Host.divf (F := Ideal) (φ := .f32) (shapeCast S4x96x384 (sums x ind val) shapeCasts_S147456_S4x96x384)
    (broadcastInDim S4x96x384 ![0, 1, 2] bcast_S4x1x384_S4x96x384_0_1_2 (broadcastInDim S4x1x384 ![0, 2] bcast_S4x384_S4x1x384_0_2 c))

/-! ## The index words -/

theorem pos_rows : ∀ a, 0 < S4x96.size a := by decide
theorem pos_all : ∀ a, 0 < S56623104.size a := by intro a; fin_cases a; norm_num [Shape.size]
theorem pos_col : ∀ a, 0 < S56623104x1.size a := by intro a; fin_cases a <;> norm_num [Shape.size]

/-- Row `(b, c)` starts at segment `(96 * b + c) * 384`. -/
theorem rowBase_apply (i : S4x96.Idx) : rowBase i = BitVec.ofNat 32 (((i 0).val * 96 + (i 1).val) * 384) := by
  have e1 : (broadcastInDim S4x96 ![0, 1] bcast_S4x1_S4x96_0_1 (muli (broadcastInDim S4x1 ![0] bcast_S4_S4x1_0 (iotaInDim S4 32 0))
      (broadcastInDim S4x1 ![] bcast_S_S4x1 (constantI S_ 32 96#32)))) i = BitVec.ofNat 32 (i 0).val * 96#32 := rfl
  have e2 : (broadcastInDim S4x96 ![0, 1] bcast_S1x96_S4x96_0_1 (broadcastInDim S1x96 ![1] bcast_S96_S1x96_1 (iotaInDim S96 32 0))) i
      = BitVec.ofNat 32 (i 1).val := rfl
  show (_ + _) * 384#32 = _
  rw [e1, e2]
  apply BitVec.eq_of_toNat_eq
  simp only [BitVec.toNat_mul, BitVec.toNat_add, BitVec.toNat_ofNat]
  have h0 : (i 0).val < 4 := (i 0).isLt
  have h1 : (i 1).val < 96 := (i 1).isLt
  omega

/-- The pixel of channel `c` of batch `b` at `(h, w)`. -/
abbrev pixel (b c h w : ℕ) : S4x96x384x384.Idx := ixm pos_inp ![b, c, h, w]

theorem segOf_toNat {ind : S4x384x384.Idx → BitVec 32} (hi : ∀ e, (ind e).toNat < 384) {b c h w : ℕ} (hb : b < 4) (hc : c < 96) :
    (segOf ind (pixel b c h w)).toNat = (b * 96 + c) * 384 + (ind (ixm pos_idx ![b, h, w])).toNat := by
  have e : segOf ind (pixel b c h w) = rowBase (ixm pos_rows ![b, c]) + ind (ixm pos_idx ![b, h, w]) := by
    show _ + _ = _
    refine congrArg₂ (· + ·) ?_ ?_
    · refine (broadcastInDim_apply _ _ _ _ (ixm (s := S4x96x1x1) (by decide) ![b, c, 0, 0]) ?_).trans
        (broadcastInDim_apply _ _ _ _ _ ?_)
      · intro a; fin_cases a <;> rfl
      · intro a; fin_cases a <;> rfl
    · refine (broadcastInDim_apply _ _ _ _ (ixm (s := S4x1x384x384) (by decide) ![b, 0, h, w]) ?_).trans
        (broadcastInDim_apply _ _ _ _ _ ?_)
      · intro a; fin_cases a <;> rfl
      · intro a; fin_cases a <;> rfl
  have hi := hi (ixm pos_idx ![b, h, w])
  rw [e, rowBase_apply]
  have h0 : ((ixm pos_rows ![b, c]) 0).val = b := Nat.mod_eq_of_lt hb
  have h1 : ((ixm pos_rows ![b, c]) 1).val = c := Nat.mod_eq_of_lt hc
  rw [h0, h1]
  simp only [BitVec.toNat_add, BitVec.toNat_ofNat]
  omega

/-- Update `n` as an index of the row, and of the column of index words. -/
abbrev at1 (n : ℕ) : S56623104.Idx := ixm pos_all ![n]
abbrev atCol (n : ℕ) : S56623104x1.Idx := ixm pos_col ![n, 0]

/-- Update `n`'s pixel. -/
abbrev pixAt (n : ℕ) : S4x96x384x384.Idx := pixel (n / 14155776) (n / 147456 % 96) (n / 384 % 384) (n % 384)

theorem cast_row {α : Type} (v : S4x96x384x384.Idx → α) {n : ℕ} (hn : n < 56623104) :
    shapeCast S56623104 v shapeCasts_S4x96x384x384_S56623104 (at1 n) = v (pixAt n) := by
  refine shapeCast_apply _ _ _ _ ?_
  rw [Shape.rowMajor_val_four, Shape.rowMajor_val_one]
  show ((n / 14155776 % 4 * 96 + n / 147456 % 96 % 96) * 384 + n / 384 % 384 % 384) * 384 + n % 384 % 384 = n % 56623104
  omega

/-- The index word of update `n`, read signed. -/
theorem segCol_toInt {ind : S4x384x384.Idx → BitVec 32} (hi : ∀ e, (ind e).toNat < 384) {n : ℕ} (hn : n < 56623104) :
    (segCol ind (atCol n)).toInt
      = ((n / 147456 * 384 + (ind (ixm pos_idx ![n / 14155776, n / 384 % 384, n % 384])).toNat : ℕ) : ℤ) := by
  have e0 : (segRow ind (at1 n)).toNat = n / 147456 * 384 + (ind (ixm pos_idx ![n / 14155776, n / 384 % 384, n % 384])).toNat := by
    unfold segRow
    rw [cast_row _ hn, segOf_toNat hi (by omega) (Nat.mod_lt _ (by norm_num))]
    omega
  have hlt := hi (ixm pos_idx ![n / 14155776, n / 384 % 384, n % 384])
  have e1 : segCol ind (atCol n) = segRow ind (at1 n) := by
    refine (broadcastInDim_apply _ _ _ _ (at1 n) ?_).trans ?_
    · intro a; fin_cases a; rfl
    · show (if IntOp.cmpi .slt (segRow ind (at1 n)) 0#32 = 1#1 then _ else _) = _
      rw [if_neg]
      rw [StableHlo.Predicate.slt_iff_toNat (by omega) (by norm_num)]
      exact Nat.not_lt_zero _
  rw [e1, StableHlo.Predicate.toInt_eq_toNat_of_lt (by omega), e0]

/-! ## Where an update lands -/

/-- An update lands at `e` exactly when its index word, read signed, is `e`. -/
theorem lands_iff (idx : S56623104x1.Idx → BitVec 32) (j : S56623104.Idx) (e : S147456.Idx) :
    scatter_S147456_S56623104x1_S56623104_n_0_0_1.resultIdx? j idx = some e ↔ (idx (atCol (j 0).val)).toInt = ((e 0).val : ℤ) := by
  have hm : (0 : Fin 1) ∈ scatter_S147456_S56623104x1_S56623104_n_0_0_1.scatterDimsToOperandDims := List.mem_singleton.2 rfl
  have hwin : scatter_S147456_S56623104x1_S56623104_n_0_0_1.window j 0 = 0 :=
    dif_neg fun h => (of_decide_eq_true (List.mem_filter.1 h).2) (List.mem_singleton.2 rfl)
  have hstart : scatter_S147456_S56623104x1_S56623104_n_0_0_1.start j idx 0 = (idx (atCol (j 0).val)).toInt := by
    refine (dif_pos hm).trans (congrArg (fun z => (idx z).toInt) (eq_ixm _ fun b => ?_))
    have hlt : (j 0).val < 56623104 := (j 0).isLt
    match b with
    | ⟨0, _⟩ =>
      refine (congrArg Fin.val (dif_neg (show ¬ (0 : ℕ) = 1 by decide))).trans ?_
      show (j _).val = (j 0).val
      exact congrArg (fun a => (j a).val) (Subsingleton.elim (α := Fin 1) _ _)
    | ⟨1, _⟩ =>
      refine (congrArg Fin.val (dif_pos rfl)).trans ?_
      rfl
  have hall : ∀ a : Fin 1, a = 0 := fun a => Subsingleton.elim _ _
  unfold ScatterDims.resultIdx?
  constructor
  · intro h
    split at h
    · rename_i hr
      have h0 := hr 0
      rw [hstart, hwin] at h0
      have := congrArg (fun z : S147456.Idx => (z 0).val) (Option.some.inj h)
      simp only [hstart, hwin] at this
      omega
    · exact absurd h (by simp)
  · intro h
    have hlt : (e 0).val < 147456 := (e 0).isLt
    rw [dif_pos]
    · refine congrArg some (funext fun a => Fin.ext ?_)
      obtain rfl := hall a
      show (_ + _ : ℤ).toNat = _
      rw [hstart, hwin, h]
      simp
    · intro a
      obtain rfl := hall a
      rw [hstart, hwin, h]
      refine ⟨by omega, ?_⟩
      show _ < (147456 : ℤ)
      omega

/-! ## The updates and the counts -/

theorem updRow_apply (x : S4x96x384x384.Idx → EReal) (val : S4x384x384.Idx → BitVec 32) {n : ℕ} (hn : n < 56623104) :
    updRow x val (at1 n)
      = x (pixAt n) * (((val (ixm pos_idx ![n / 14155776, n / 384 % 384, n % 384])).toInt : ℝ) : EReal) := by
  unfold updRow
  rw [cast_row _ hn]
  show x (pixAt n) * _ = _
  congr 1
  refine (broadcastInDim_apply _ _ _ _ (ixm (s := S4x1x384x384) (by decide) ![n / 14155776, 0, n / 384 % 384, n % 384]) ?_).trans ?_
  · intro a; fin_cases a <;> rfl
  · show (((broadcastInDim S4x1x384x384 ![0, 2, 3] bcast_S4x384x384_S4x1x384x384_0_2_3 val _).toInt : ℝ) : EReal) = _
    rw [broadcastInDim_apply _ _ _ _ (ixm pos_idx ![n / 14155776, n / 384 % 384, n % 384])]
    intro a; fin_cases a <;> rfl

theorem counts_apply (c : S4x384.Idx → EReal) (i : S4x96x384.Idx) :
    broadcastInDim S4x96x384 ![0, 1, 2] bcast_S4x1x384_S4x96x384_0_1_2 (broadcastInDim S4x1x384 ![0, 2] bcast_S4x384_S4x1x384_0_2 c) i
      = c (ixm (s := S4x384) (by decide) ![(i 0).val, (i 2).val]) := by
  have h0 : (i 0).val < 4 := (i 0).isLt
  have h2 : (i 2).val < 384 := (i 2).isLt
  refine (broadcastInDim_apply _ _ _ _ (ixm (s := S4x1x384) (by decide) ![(i 0).val, 0, (i 2).val]) ?_).trans
    (broadcastInDim_apply _ _ _ _ _ ?_)
  · intro a; fin_cases a
    · exact Nat.mod_eq_of_lt h0
    · rfl
    · exact Nat.mod_eq_of_lt h2
  · intro a; fin_cases a <;> simp [ixm, Shape.size]

end Cert.Proof.RefValue

end

end
-- ==== Proof.Launch.lean ====
/-
  The whole program's run: the host operations before the call, the call dealt to the tiles and collected from them, the
  last reshape, and what the final memory holds.
-/
module

public import proofs.«01_k».proof.Proof.Task

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Offsets Cert.Proof.Model Cert.Proof.Blocks Cert.Proof.Moves Cert.Proof.Setup

variable {F : FTy → Type} [FloatOps F]

local notation "𝕄" => MT nD τ sig (HIx 1) (Elt F) ℕ UU ℕ

open Cert.Proof.Body Cert.Proof.Task
open Idealize.ShloMosaic.Transfers
open Idealize.ShloMosaic.StableHlo (held held_sub_split wp_hlo_within after)

variable (m : (ℓ : Loc nD τ sig) → Buf (Elt F) ℓ) (ρ : Dev nD → PrngReg)

/-! ## The tiles' shares and pieces -/

/-- The 32 tiles, by SparseCore and subcore. -/
theorem bigSep_tiles (Φ : Fin 32 → sProp 𝕄) :
    (bigSep Finset.univ fun c : Fin ((K (F := F)).nCore 0) => bigSep Finset.univ fun i : Fin ((K (F := F)).nSub 0) => Φ (tileNo c i))
      = bigSep Finset.univ Φ := by
  rw [bigSep_univ_equiv (finProdFinEquiv : Fin 2 × Fin 16 ≃ Fin 32) Φ, bigSep_univ_prod]
  refine bigSep_congr fun c _ => bigSep_congr fun i _ => congrArg Φ (Fin.ext ?_)
  show 16 * c.val + i.val = i.val + 16 * c.val
  omega

theorem pieces_disjoint : ∀ i ∈ (Finset.univ : Finset (Fin 32)), ∀ j ∈ (Finset.univ : Finset (Fin 32)), i ≠ j → Disjoint (piece i.val) (piece j.val) := by
  intro i _ j _ h
  rw [Finset.disjoint_left]
  intro e hi hj
  exact h (Fin.ext ((Finset.mem_filter.mp hi).2.symm.trans (Finset.mem_filter.mp hj).2))

theorem pieces_cover : (Finset.univ : Finset (Fin 32)).biUnion (fun i => piece i.val) = Finset.univ := by
  refine Finset.eq_univ_of_forall fun e => Finset.mem_biUnion.mpr ?_
  have he : (e 0).val < 147456 := (e 0).isLt
  exact ⟨⟨(e 0).val / 4608, by omega⟩, Finset.mem_univ _, Finset.mem_filter.mpr ⟨Finset.mem_univ _, rfl⟩⟩

theorem out_pieces (d : Dev nD) (f : S147456.Idx → F .f32) :
    (oLoc d ↦{fullShare} f : sProp 𝕄) = bigSep Finset.univ fun w : Fin 32 => Piece d w f := by
  unfold Piece
  rw [← pointsTo_biUnion Finset.univ (ℓ := oLoc d) (fun w : Fin 32 => piece w.val) pieces_disjoint, pieces_cover]

/-! ## The call's operands dealt and collected -/

theorem st_eq (d : Dev nD) : (bigSep Finset.univ fun c : Fin ((K (F := F)).nCore 0) => (P m).st 0 d c) = bigSep Finset.univ (Go m d) :=
  bigSep_tiles (Go m d)

theorem dn_eq (d : Dev nD) : (bigSep Finset.univ fun c : Fin ((K (F := F)).nCore 0) => (P m).dn 0 d c) = bigSep Finset.univ (Td m d) :=
  bigSep_tiles (Td m d)

/-- What is kept of the arrays that the tiles read. -/
def Kept (d : Dev nD) : sProp 𝕄 := xLoc d ↦{shareDrop fullShare 32} inpV m d

theorem deal (d : Dev nD) : iprop((xLoc d ↦{fullShare} inpV m d) ∗ (iLoc d ↦{fullShare} idxV m d) ∗ (cLoc d ↦{fullShare} cntV m d)
      ∗ oLoc d ↦{fullShare} (m (oLoc d) : S147456.Idx → F .f32)) ⊢ iprop(Kept m d ∗ bigSep Finset.univ (Go m d)) := by
  unfold Go Read Kept
  rw [bigSep_sep', bigSep_sep', bigSep_sep', ← out_pieces]
  iintro ⟨HX, HI, HC, HO⟩
  ihave HX := (pointsTo_toks_split fullShare 32) $$ HX
  ihave HI := (pointsTo_toks_split fullShare 32) $$ HI
  ihave HC := (pointsTo_toks_split fullShare 32) $$ HC
  icases HX with ⟨HX', HX⟩
  icases HI with ⟨-, HI⟩
  icases HC with ⟨-, HC⟩
  isplitl [HX']; · iexact HX'
  isplitr [HO]
  · isplitl [HX]; · iexact HX
    isplitl [HI]; · iexact HI
    iexact HC
  iexact HO

theorem collect (d : Dev nD) : (bigSep Finset.univ (Td m d)) ⊢ (oLoc d ↦{fullShare} outV m d : sProp 𝕄) := by
  unfold Td
  rw [bigSep_sep', ← out_pieces]
  iintro ⟨-, HO⟩
  iexact HO

theorem vecSplit : (K (F := F)).VecSplit' (P m) 0 := by
  intro d c
  show (bigSep Finset.univ fun i => Go m d (tileNo c i)) ⊢ |={Set.univ}=> iprop((bigSep Finset.univ fun i => Go m d (tileNo c i))
      ∗ ((bigSep Finset.univ fun i => Td m d (tileNo c i)) -∗ bigSep Finset.univ fun i => Td m d (tileNo c i)))
  iintro H; imodintro
  isplitl [H]; · iexact H
  iintro H
  iexact H

/-! ## The launch element of the ghost state -/

theorem bigSep_emp {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp]
  iempintro

/-! ## The host operations -/

abbrev ref (b : Ref sig .tc) : DevRef τ sig := Proc.devRef .tc b

/-- The arrays of the program, and those that the call and the operation after it use. -/
abbrev All : Finset (DevRef τ sig) := {ref main_arg0, ref main_arg1, ref main_arg2, ref main_arg3, ref main_c, ref main_v0, ref main_v1,
  ref main_c_0, ref main_v2, ref main_v3, ref main_v4, ref main_v5, ref main_v6, ref main_v7}
abbrev Used : Finset (DevRef τ sig) := {ref main_arg0, ref main_arg1, ref main_arg2, ref main_arg3, ref main_v4, ref main_v5, ref main_v6, ref main_v7}

abbrev op1 : HloOp τ sig (Elt F) := StableHlo.nullary main_c (constantI S_ 32 0#32)
abbrev op2 : HloOp τ sig (Elt F) := StableHlo.unary main_c main_v0 (broadcastInDim S4x384x384 ![] bcast_S_S4x384x384 : (⟨S_, .i32⟩ : BufTy).Contents (Elt F) → (⟨S4x384x384, .i32⟩ : BufTy).Contents (Elt F))
abbrev op3 : HloOp τ sig (Elt F) := StableHlo.binary main_arg3 main_v0 main_v1 (cmpi .sgt : (⟨S4x384x384, .i32⟩ : BufTy).Contents (Elt F) → (⟨S4x384x384, .i32⟩ : BufTy).Contents (Elt F) → (⟨S4x384x384, .i1⟩ : BufTy).Contents (Elt F))
abbrev op4 : HloOp τ sig (Elt F) := StableHlo.nullary main_c_0 (constantI S_ 32 2147483648#32)
abbrev op5 : HloOp τ sig (Elt F) := StableHlo.unary main_c_0 main_v2 (broadcastInDim S4x384x384 ![] bcast_S_S4x384x384 : (⟨S_, .i32⟩ : BufTy).Contents (Elt F) → (⟨S4x384x384, .i32⟩ : BufTy).Contents (Elt F))
abbrev op6 : HloOp τ sig (Elt F) := StableHlo.binary main_arg2 main_v2 main_v3 (ori : (⟨S4x384x384, .i32⟩ : BufTy).Contents (Elt F) → (⟨S4x384x384, .i32⟩ : BufTy).Contents (Elt F) → (⟨S4x384x384, .i32⟩ : BufTy).Contents (Elt F))
abbrev op7 : HloOp τ sig (Elt F) := StableHlo.TRef.ternary (.of main_v1 : StableHlo.TRef sig ⟨S4x384x384, .i1⟩) (.of main_arg2 : StableHlo.TRef sig ⟨S4x384x384, .i32⟩)
  (.of main_v3 : StableHlo.TRef sig ⟨S4x384x384, .i32⟩) main_call0.v0 select
abbrev op8 : HloOp τ sig (Elt F) := StableHlo.reshape main_arg1 main_v5 (rfl : (.f32 : EltTy) = .f32) shapeCasts_S4x384_S1536
abbrev opR : HloOp τ sig (Elt F) := StableHlo.reshape main_v6 main_v7 (rfl : (.f32 : EltTy) = .f32) shapeCasts_S147456_S4x96x384

/-- The contents at launch, and before the call. -/
def V0 (d : Dev nD) : Valuation τ sig (Elt F) := fun b => m (d, b)
abbrev V8 (d : Dev nD) : Valuation τ sig (Elt F) := after [op1, op2, op3, op4, op5, op6, op7, op8] (V0 m d)

theorem V8_a0 (d : Dev nD) : V8 m d (ref main_arg0) = m (xLoc d) := by
  unfold V8; after_results_simp; rfl
theorem V8_a1 (d : Dev nD) : V8 m d (ref main_arg1) = m ((SparseCore.T d).loc main_arg1) := by
  unfold V8; after_results_simp; rfl
theorem V8_a2 (d : Dev nD) : V8 m d (ref main_arg2) = m ((SparseCore.T d).loc main_arg2) := by
  unfold V8; after_results_simp; rfl
theorem V8_a3 (d : Dev nD) : V8 m d (ref main_arg3) = m ((SparseCore.T d).loc main_arg3) := by
  unfold V8; after_results_simp; rfl
theorem V8_v4 (d : Dev nD) : V8 m d (ref main_v4) = idxV m d := by
  unfold V8; after_results_simp; rfl
theorem V8_v5 (d : Dev nD) : V8 m d (ref main_v5) = cntV m d := by
  unfold V8; after_results_simp; rfl
theorem V8_v6 (d : Dev nD) : V8 m d (ref main_v6) = m (oLoc d) := by
  unfold V8; after_results_simp; rfl

theorem held_All (d : Dev nD) (W : Valuation τ sig (Elt F)) :
    (held (SparseCore.T d) All W : sProp 𝕄)
      = iprop(((SparseCore.T d).loc main_arg0 ↦{fullShare} W (ref main_arg0)) ∗ ((SparseCore.T d).loc main_arg1 ↦{fullShare} W (ref main_arg1))
          ∗ ((SparseCore.T d).loc main_arg2 ↦{fullShare} W (ref main_arg2)) ∗ ((SparseCore.T d).loc main_arg3 ↦{fullShare} W (ref main_arg3))
          ∗ ((SparseCore.T d).loc main_c ↦{fullShare} W (ref main_c)) ∗ ((SparseCore.T d).loc main_v0 ↦{fullShare} W (ref main_v0))
          ∗ ((SparseCore.T d).loc main_v1 ↦{fullShare} W (ref main_v1)) ∗ ((SparseCore.T d).loc main_c_0 ↦{fullShare} W (ref main_c_0))
          ∗ ((SparseCore.T d).loc main_v2 ↦{fullShare} W (ref main_v2)) ∗ ((SparseCore.T d).loc main_v3 ↦{fullShare} W (ref main_v3))
          ∗ ((SparseCore.T d).loc main_v4 ↦{fullShare} W (ref main_v4)) ∗ ((SparseCore.T d).loc main_v5 ↦{fullShare} W (ref main_v5))
          ∗ ((SparseCore.T d).loc main_v6 ↦{fullShare} W (ref main_v6)) ∗ ((SparseCore.T d).loc main_v7 ↦{fullShare} W (ref main_v7))) := by
  unfold held All
  repeat rw [SparseCore.bigSep_insert' (by decide)]
  rw [bigSep_singleton]

theorem unscoped_held (d : Dev nD) : (unscopedBufs d (fun b => m ((SparseCore.T d).loc b)) : sProp 𝕄) = held (SparseCore.T d) All (V0 m d) := by
  rw [held_All]
  unfold unscopedBufs
  rw [show (Finset.univ.filter fun b : Ref sig .tc => ¬ b.isScoped) = {main_arg0, main_arg1, main_arg2, main_arg3, main_c, main_v0, main_v1,
    main_c_0, main_v2, main_v3, main_v4, main_v5, main_v6, main_v7} by decide]
  repeat rw [SparseCore.bigSep_insert' (by decide)]
  rw [bigSep_singleton]
  rfl

/-- The result: the output in its three axes. -/
def resV (d : Dev nD) : S4x96x384.Idx → F .f32 := fun i => shapeCast S4x96x384 (outV m d) shapeCasts_S147456_S4x96x384 i

abbrev rLoc (d : Dev nD) : Loc nD τ sig := (SparseCore.T d).loc main_v7

/-- After the call. -/
def V9 (d : Dev nD) : Valuation τ sig (Elt F) := Function.update (V8 m d) (ref main_v6) (outV m d)

theorem held_two (d : Dev nD) (W : Valuation τ sig (Elt F)) : (held (SparseCore.T d) {ref main_v6, ref main_v7} W : sProp 𝕄)
    = iprop((oLoc d ↦{fullShare} W (ref main_v6)) ∗ (rLoc d ↦{fullShare} W (ref main_v7))) := by
  unfold held
  rw [SparseCore.bigSep_insert' (by decide), bigSep_singleton]

theorem V9_v6 (d : Dev nD) : V9 m d (ref main_v6) = outV m d := Function.update_self _ _ _
theorem V9_v7 (d : Dev nD) : V9 m d (ref main_v7) = V8 m d (ref main_v7) := Function.update_of_ne (by decide) _ _

theorem res_eq (d : Dev nD) : (opR (F := F)).result (V9 m d) (ref main_v7) = resV m d :=
  (StableHlo.reshape_result _ _ _ _ _ _ _).trans (by rw [V9_v6]; rfl)

theorem sub1 : (op1 (F := F)).bufs ⊆ All := show ({ref main_c} : Finset (DevRef τ sig)) ⊆ All by decide
theorem sub2 : (op2 (F := F)).bufs ⊆ All := show ({ref main_c, ref main_v0} : Finset (DevRef τ sig)) ⊆ All by decide
theorem sub3 : (op3 (F := F)).bufs ⊆ All := show ({ref main_arg3, ref main_v0, ref main_v1} : Finset (DevRef τ sig)) ⊆ All by decide
theorem sub4 : (op4 (F := F)).bufs ⊆ All := show ({ref main_c_0} : Finset (DevRef τ sig)) ⊆ All by decide
theorem sub5 : (op5 (F := F)).bufs ⊆ All := show ({ref main_c_0, ref main_v2} : Finset (DevRef τ sig)) ⊆ All by decide
theorem sub6 : (op6 (F := F)).bufs ⊆ All := show ({ref main_arg2, ref main_v2, ref main_v3} : Finset (DevRef τ sig)) ⊆ All by decide
theorem sub7 : (op7 (F := F)).bufs ⊆ All := show ({ref main_v1, ref main_arg2, ref main_v3, ref main_v4} : Finset (DevRef τ sig)) ⊆ All by decide
theorem sub8 : (op8 (F := F)).bufs ⊆ All := show ({ref main_arg1, ref main_v5} : Finset (DevRef τ sig)) ⊆ All by decide
theorem subR : (opR (F := F)).bufs ⊆ ({ref main_v6, ref main_v7} : Finset (DevRef τ sig)) :=
  show ({ref main_v6, ref main_v7} : Finset (DevRef τ sig)) ⊆ {ref main_v6, ref main_v7} by decide

/-! ## The program on the TensorCore -/

/-- The arguments that the call does not touch. -/
def Rest (d : Dev nD) : sProp 𝕄 := iprop(((SparseCore.T d).loc main_arg1 ↦{fullShare} m ((SparseCore.T d).loc main_arg1))
  ∗ ((SparseCore.T d).loc main_arg2 ↦{fullShare} m ((SparseCore.T d).loc main_arg2))
  ∗ ((SparseCore.T d).loc main_arg3 ↦{fullShare} m ((SparseCore.T d).loc main_arg3)))

/-- What the program leaves: the arguments at their launch contents, the result at its value. -/
abbrev FIN (d : Dev nD) : sProp 𝕄 := iprop(Kept m d ∗ Rest m d ∗ rLoc d ↦{fullShare} resV m d)

/-- The arrays before the call, as the call wants them. -/
theorem before_call (d : Dev nD) :
    (held (SparseCore.T d) All ((op8 (F := F)).result (after [op1, op2, op3, op4, op5, op6, op7] (V0 m d))) : sProp 𝕄)
    ⊢ iprop(Kept m d ∗ Rest m d ∗ (rLoc d ↦{fullShare} V8 m d (ref main_v7)) ∗ bigSep Finset.univ (Go m d)) := by
  change (held (SparseCore.T d) All (V8 m d) : sProp 𝕄) ⊢ _
  rw [held_All, V8_a0, V8_a1, V8_a2, V8_a3, V8_v4, V8_v5, V8_v6]
  unfold Rest
  iintro ⟨H0, H1, H2, H3, -, -, -, -, -, -, H4, H5, H6, H7⟩
  ihave H := (deal m d) $$ [H0 H4 H5 H6]
  · isplitl [H0]; · iexact H0
    isplitl [H4]; · iexact H4
    isplitl [H5]; · iexact H5
    iexact H6
  icases H with ⟨HK, HG⟩
  isplitl [HK]; · iexact HK
  isplitl [H1 H2 H3]
  · isplitl [H1]; · iexact H1
    isplitl [H2]; · iexact H2
    iexact H3
  isplitl [H7]; · iexact H7
  iexact HG

/-- The output and the result after the call. -/
theorem after_call (d : Dev nD) : iprop((rLoc d ↦{fullShare} V8 m d (ref main_v7)) ∗ bigSep Finset.univ (Td m d))
    ⊢ (held (SparseCore.T d) {ref main_v6, ref main_v7} (V9 m d) : sProp 𝕄) := by
  rw [held_two, V9_v6, V9_v7]
  iintro ⟨H7, HT⟩
  isplitl [HT]
  · iapply (collect m d); iexact HT
  iexact H7

theorem after_all (d : Dev nD) : (held (SparseCore.T d) {ref main_v6, ref main_v7} ((opR (F := F)).result (V9 m d)) : sProp 𝕄)
    ⊢ (rLoc d ↦{fullShare} resV m d : sProp 𝕄) := by
  rw [held_two, res_eq]
  iintro ⟨-, H⟩
  iexact H

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_where.body, wp_bind, wp_pure]
  iintro ⟨#Hctx, Hst, ⟨Hb, Hheld, Hts, -⟩, -⟩
  iapply (wp_hlo_within 𝒱 (SparseCore.T d) none Set.univ (op := op1) (S := All) sub1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := All) sub2 (V := after [op1] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := All) sub3 (V := after [op1, op2] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := All) sub4 (V := after [op1, op2, op3] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := All) sub5 (V := after [op1, op2, op3, op4] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := All) sub6 (V := after [op1, op2, op3, op4, op5] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := All) sub7 (V := after [op1, op2, op3, op4, op5, op6] (V0 m d))) $$ [Hb Hheld]
  · isplitl [Hb]; · iexact Hb
    iexact Hheld
  iintro ⟨Hb, Hheld⟩
  rw [wp_ret]; imodintro; imodintro
  iapply (wp_hlo_within 𝒱 (SparseCore.T d) none Set.univ (op := op8) (S := All) sub8 (V := after [op1, op2, op3, op4, op5, op6, op7] (V0 m d))) $$ [Hb Hheld]
  · isplitl [Hb]; · iexact Hb
    iexact Hheld
  iintro ⟨Hb, Hheld⟩
  rw [wp_ret]; imodintro
  ihave H := (before_call m d) $$ Hheld
  icases H with ⟨HK, HR, H7, HG⟩
  iapply ((K (F := F)).wp_run (D (F := F)) 𝒱 (EH := EH) (P := P m) κ d 0) $$ [Hst HK HR H7 HG Hb Hts]
  isplitr; · iexact Hctx
  isplitl [Hst]; · iexact Hst
  isplitl [HG]
  · rw [st_eq]
    iexact HG
  iintro ⟨Hst, Hdn⟩
  ihave HT := (Entails.of_eq (dn_eq m d)) $$ Hdn
  ihave H := (after_call m d) $$ [H7 HT]
  · isplitl [H7]; · iexact H7
    iexact HT
  iapply (wp_hlo_within 𝒱 (SparseCore.T d) none Set.univ (op := opR) (S := {ref main_v6, ref main_v7}) subR (V := V9 m d)) $$ [Hb H]
  · isplitl [Hb] <;> iassumption
  iintro ⟨Hb, H⟩
  ihave H := (after_all m d) $$ H
  rw [wp_ret]; imodintro; imodintro
  isplitl [Hst]; · iexact Hst
  isplitr [Hb Hts]
  · isplitl [HK]; · iexact HK
    isplitl [HR]; · iexact HR
    iexact H
  isplitl [Hb] <;> iassumption

/-! ## The final memory -/

/-- The final memory: the arguments at their launch contents, the result at its value. -/
def Fin' (m' : (ℓ : Loc nD τ sig) → Buf (Elt F) ℓ) (d : Dev nD) : Prop :=
  m' (rLoc d) = resV m d ∧ m' (xLoc d) = m (xLoc d) ∧ m' ((SparseCore.T d).loc main_arg1) = m ((SparseCore.T d).loc main_arg1)
    ∧ m' ((SparseCore.T d).loc main_arg2) = m ((SparseCore.T d).loc main_arg2) ∧ m' ((SparseCore.T d).loc main_arg3) = m ((SparseCore.T d).loc main_arg3)

/-- A points-to read in the memory, and kept. -/
theorem look (s' : Phys nD τ sig (Elt F)) (ℓ : Loc nD τ sig) (q : PosShare TreeShare) (f : Buf (Elt F) ℓ) :
    iprop(SI s' ∗ ℓ ↦{q} f) ⊢ (iprop(SI s' ∗ ⌜s'.mem.mem ℓ = f⌝) : sProp 𝕄) := by
  iintro ⟨HSI, H⟩
  ihave H := (persistent_entails_right (SI_pointsTo_agree (st := s') (ℓ := ℓ) (I := Finset.univ) (q := q) (f := f))) $$ [HSI H]
  · isplitl [HSI] <;> iassumption
  icases H with ⟨%h, HSI, -⟩
  isplitl [HSI]; · iexact HSI
  ipureintro; exact funext fun i => h i (Finset.mem_univ i)

theorem hfin (d : Dev nD) (s' : Phys nD τ sig (Elt F)) : iprop(FIN m d ∗ SI s') ⊢ (⌜Fin' m s'.mem.mem d⌝ : sProp 𝕄) := by
  unfold FIN Kept Rest
  iintro ⟨⟨H0, ⟨H1, H2, H3⟩, HR⟩, HSI⟩
  ihave H := (look s' _ _ _) $$ [HSI H0]
  · isplitl [HSI] <;> iassumption
  icases H with ⟨HSI, %h0⟩
  ihave H := (look s' _ _ _) $$ [HSI H1]
  · isplitl [HSI] <;> iassumption
  icases H with ⟨HSI, %h1⟩
  ihave H := (look s' _ _ _) $$ [HSI H2]
  · isplitl [HSI] <;> iassumption
  icases H with ⟨HSI, %h2⟩
  ihave H := (look s' _ _ _) $$ [HSI H3]
  · isplitl [HSI] <;> iassumption
  icases H with ⟨HSI, %h3⟩
  ihave H := (look s' _ _ _) $$ [HSI HR]
  · isplitl [HSI] <;> iassumption
  icases H with ⟨HSI, %h4⟩
  ipureintro
  exact ⟨h4, h0, h1, h2, h3⟩

/-- The program runs to its end: the arguments are as they were, the result has its value, every semaphore is at zero. -/
theorem run_main [∀ e, Nonempty (Elt F e)] (hpre : PreOK m) :
    θ_run (Cert.KernelIdeal.defs (F := F)) (Cert.KernelIdeal.threads (F := F)) ⟨m, fun _ => 0, ρ⟩
      (fun r => (∀ c : Dev nD, Fin' m r.2.mem c) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Fin' m s'.mem.mem d) (hfin m)
    (fun r => (∀ c : Dev nD, Fin' m r.2.mem c) ∧ r.2.sem = fun _ => 0) (fun _ h hz => ⟨h, hz⟩)

end Cert.Proof.Launch

end

end
-- ==== Proof.Equal.lean ====
/-
  The kernel's result is the reference's, over the extended reals, for indices and flags in range.
-/
module

public import proofs.«01_k».proof.Proof.Range
public import proofs.«01_k».proof.Proof.Sum
public import proofs.«01_k».proof.Proof.RefValue
public import proofs.«01_k».proof.Proof.Launch

@[expose] public section

noncomputable section

namespace Cert.Proof.Equal

open Cert.ReferenceIdeal Cert.ReferenceIdeal.Gen
open Idealize.ShloMosaic
open Cert.Proof.Offsets Cert.Proof.Model Cert.Proof.RefValue
open Cert.Proof.Task (idxOf cntOf)

/-- A sum over the updates is a sum over their numbers. -/
theorem sum_updates (f : S56623104.Idx → EReal) : ∑ j, f j = ∑ n ∈ Finset.range 56623104, f (at1 n) := by
  refine Finset.sum_nbij' (fun j => (j 0).val) at1 ?_ ?_ ?_ ?_ ?_
  · intro j _; exact Finset.mem_range.2 (j 0).isLt
  · intro n _; exact Finset.mem_univ _
  · intro j _; exact (eq_ixm pos_all fun a => by obtain rfl : a = 0 := Subsingleton.elim (α := Fin 1) _ _; rfl).symm
  · intro n hn; exact Nat.mod_eq_of_lt (Finset.mem_range.1 hn)
  · intro j _; exact congrArg f (eq_ixm pos_all fun a => by obtain rfl : a = 0 := Subsingleton.elim (α := Fin 1) _ _; rfl)

variable {x : S4x96x384x384.Idx → EReal} {ind val : S4x384x384.Idx → BitVec 32}

/-- The pixel at `(h, w)` of batch `b`. -/
abbrev spot (b h w : ℕ) : S4x384x384.Idx := ixm pos_idx ![b, h, w]

/-- The contribution of pixel `(h, w)` to label `l` of channel `c` of batch `b`. -/
def share (x : S4x96x384x384.Idx → EReal) (ind val : S4x384x384.Idx → BitVec 32) (b c l h w : ℕ) : EReal :=
  if (val (spot b h w)).toNat = 1 ∧ (ind (spot b h w)).toNat = l then x (pixel b c h w) else 0

/-- The input times the flag is the input where the flag is 1, and zero where it is 0. -/
theorem times_flag (y : EReal) {v : BitVec 32} (hv : v.toNat < 2) : y * ((v.toInt : ℝ) : EReal) = if v.toNat = 1 then y else 0 := by
  rw [StableHlo.Predicate.toInt_eq_toNat_of_lt (by omega)]
  split <;> rename_i h
  · rw [h]; simp
  · rw [show v.toNat = 0 by omega]; simp

/-- The reference's sum for segment `e`. -/
theorem sums_apply (hi : ∀ e, (ind e).toNat < 384) (hv : ∀ e, (val e).toNat < 2) (e : S147456.Idx) :
    sums x ind val e = ∑ p ∈ Finset.range 147456,
      share x ind val ((e 0).val / 36864) ((e 0).val / 384 % 96) ((e 0).val % 384) (p / 384) (p % 384) := by
  have he : (e 0).val < 147456 := (e 0).isLt
  have ez : zeros e = 0 := Ideal.ofBits_zero_f32
  unfold sums Ideal.hostScatterAdd
  rw [ez, zero_add, Finset.sum_filter, sum_updates, show (56623104 : ℕ) = 384 * 147456 by norm_num, Sum.sum_rows,
    Finset.sum_eq_single ((e 0).val / 384)]
  · refine Finset.sum_congr rfl fun p hp => ?_
    have hp := Finset.mem_range.1 hp
    have hn : (e 0).val / 384 * 147456 + p < 56623104 := by omega
    have hn0 : (at1 ((e 0).val / 384 * 147456 + p) 0).val = (e 0).val / 384 * 147456 + p := Nat.mod_eq_of_lt hn
    have h1 : ((e 0).val / 384 * 147456 + p) / 14155776 = (e 0).val / 36864 := by omega
    have h2 : ((e 0).val / 384 * 147456 + p) / 147456 % 96 = (e 0).val / 384 % 96 := by omega
    have h3 : ((e 0).val / 384 * 147456 + p) / 384 % 384 = p / 384 := by omega
    have h4 : ((e 0).val / 384 * 147456 + p) % 384 = p % 384 := by omega
    have h5 : ((e 0).val / 384 * 147456 + p) / 147456 = (e 0).val / 384 := by omega
    have hpix : pixAt ((e 0).val / 384 * 147456 + p) = pixel ((e 0).val / 36864) ((e 0).val / 384 % 96) (p / 384) (p % 384) := by
      show pixel _ _ _ _ = _
      rw [h1, h2, h3, h4]
    rw [updRow_apply x val hn, hpix, h1, h3, h4, times_flag _ (hv _), ← ite_and]
    unfold share
    refine if_congr (and_comm.trans (and_congr_right fun _ => ?_)) rfl rfl
    rw [lands_iff, hn0, segCol_toInt hi hn, h1, h3, h4, h5]
    have hs : (ind (ixm pos_idx ![(e 0).val / 36864, p / 384, p % 384])).toNat
      = (ind (spot ((e 0).val / 36864) (p / 384) (p % 384))).toNat := rfl
    omega
  · intro r hr hne
    have hr := Finset.mem_range.1 hr
    refine Finset.sum_eq_zero fun p hp => if_neg fun h => hne ?_
    have hp := Finset.mem_range.1 hp
    have hn : r * 147456 + p < 56623104 := by omega
    have hn0 : (at1 (r * 147456 + p) 0).val = r * 147456 + p := Nat.mod_eq_of_lt hn
    rw [lands_iff, hn0, segCol_toInt hi hn] at h
    have := hi (ixm pos_idx ![(r * 147456 + p) / 14155776, (r * 147456 + p) / 384 % 384, (r * 147456 + p) % 384])
    omega
  · intro h
    exact absurd (Finset.mem_range.2 (by omega)) h

/-- The kernel's accumulator for channel `12 * g + j` of batch `b` and label `l`, when every pixel has been met. -/
theorem accOf_apply (hi : ∀ e, (ind e).toNat < 384) (hv : ∀ e, (val e).toNat < 2) {g : ℕ} (hg : g < 8) (b j l : ℕ) :
    accOf (F := Ideal) x (idxOf ind val) b g j l 147456
      = ∑ p ∈ Finset.range 147456, share x ind val b (12 * g + j) l (p / 384) (p % 384) := by
  unfold accOf
  rw [Sum.cell_sum, ← Sum.sum_image hg]
  refine Finset.sum_congr rfl fun q _ => ?_
  exact if_congr (Range.hit_iff (hi _) (hv _) l) rfl rfl

theorem pos_counts : ∀ a, 0 < S4x384.size a := by decide

/-- The kernel's result at `e` is the reference's sum for segment `e`, divided by the count. -/
theorem outOf_apply (c : S4x384.Idx → EReal) (hi : ∀ e, (ind e).toNat < 384) (hv : ∀ e, (val e).toNat < 2) (e : S147456.Idx) :
    outOf (F := Ideal) x (idxOf ind val) (cntOf (F := Ideal) c) e
      = Ideal.div (sums x ind val e) (c (ixm pos_counts ![(e 0).val / 36864, (e 0).val % 384])) := by
  have he : (e 0).val < 147456 := (e 0).isLt
  have hs : accOf (F := Ideal) x (idxOf ind val) ((e 0).val / 36864) ((e 0).val / 4608 % 8) ((e 0).val / 384 % 12) ((e 0).val % 384) 147456
      = sums x ind val e := by
    rw [accOf_apply hi hv (Nat.mod_lt _ (by norm_num)), sums_apply hi hv,
      show 12 * ((e 0).val / 4608 % 8) + (e 0).val / 384 % 12 = (e 0).val / 384 % 96 by omega]
  have hc : cntOf (F := Ideal) c (ixm pos_cnt ![(e 0).val / 36864 * 384 + (e 0).val % 384])
      = c (ixm pos_counts ![(e 0).val / 36864, (e 0).val % 384]) := by
    refine shapeCast_apply _ _ _ _ ?_
    rw [Shape.rowMajor_val_one, Shape.rowMajor_val_two]
    show (e 0).val / 36864 % 4 * 384 + (e 0).val % 384 % 384 = ((e 0).val / 36864 * 384 + (e 0).val % 384) % 1536
    omega
  unfold outOf
  rw [hs, hc]
  rfl

/-- The kernel's result is the reference's. -/
theorem result_eq (c : S4x384.Idx → EReal) (hi : ∀ e, (ind e).toNat < 384) (hv : ∀ e, (val e).toNat < 2) (i : S4x96x384.Idx) :
    shapeCast S4x96x384 (outOf (F := Ideal) x (idxOf ind val) (cntOf (F := Ideal) c)) Cert.KernelIdeal.Gen.facts.shapeCasts_S147456_S4x96x384 i
      = refV x c ind val i := by
  have h0 : (i 0).val < 4 := (i 0).isLt
  have h1 : (i 1).val < 96 := (i 1).isLt
  have h2 : (i 2).val < 384 := (i 2).isLt
  obtain ⟨e, he⟩ : ∃ e : S147456.Idx, (e 0).val = ((i 0).val * 96 + (i 1).val) * 384 + (i 2).val :=
    ⟨fun a => ⟨((i 0).val * 96 + (i 1).val) * 384 + (i 2).val, by
      obtain rfl : a = 0 := Subsingleton.elim (α := Fin 1) _ _
      show _ < 147456
      omega⟩, rfl⟩
  have hcast : ∀ v : S147456.Idx → EReal, shapeCast S4x96x384 v shapeCasts_S147456_S4x96x384 i = v e := fun v =>
    shapeCast_apply _ _ _ _ (by rw [Shape.rowMajor_val_one, Shape.rowMajor_val_three, he]; rfl)
  refine (hcast _).trans ((outOf_apply c hi hv e).trans ?_)
  have hr : refV x c ind val i = Ideal.div (shapeCast S4x96x384 (sums x ind val) shapeCasts_S147456_S4x96x384 i)
      (c (ixm pos_counts ![(i 0).val, (i 2).val])) := congrArg (Ideal.div _) (counts_apply c i)
  rw [hr, hcast, show (e 0).val / 36864 = (i 0).val by omega, show (e 0).val % 384 = (i 2).val by omega]

end Cert.Proof.Equal

end

end
-- ==== Proof.lean ====
/-
  The proof of `Cert.Claim`. The kernel's run is proved once, over any float operations (Proof/Launch.lean); the two
  frames are its readings at the device's words and at the extended reals, and the algebraic claim sets the result that
  it names against the reference's (Proof/Equal.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- Indices and flags in range give the kernel the words that its run needs. -/
theorem ok_of_pre {F : FTy → Type} [FloatOps F]
    (m : (ℓ : Loc Cert.KernelIdeal.nD Cert.KernelIdeal.τ Cert.KernelIdeal.sig) → Buf (Elt F) ℓ)
    (h : ∀ c : Dev Cert.KernelIdeal.nD,
      Cert.Pre_in_range.fn (F := F) (m ((SparseCore.T c).loc Cert.KernelIdeal.main_arg0)) (m ((SparseCore.T c).loc Cert.KernelIdeal.main_arg1))
        (m ((SparseCore.T c).loc Cert.KernelIdeal.main_arg2)) (m ((SparseCore.T c).loc Cert.KernelIdeal.main_arg3)) = fun _ => 1#1) :
    Task.PreOK m :=
  fun d e => Range.low_lt (Range.words_ok (h d) e).1 (Range.words_ok (h d) e).2

/-- The kernel at the device's words runs, leaves its arguments and ends quiescent. -/
theorem frame_kernel : Cert.quiescent_Kernel := fun m ρ h =>
  (θ_run Cert.KernelIdeal.defs _ _).mono (fun _ hr => ⟨fun c => ⟨(hr.1 c).2.1, (hr.1 c).2.2.1, (hr.1 c).2.2.2.1, (hr.1 c).2.2.2.2⟩, hr.2⟩)
    (Launch.run_main (F := Bits) m ρ (ok_of_pre m h))

/-- The kernel at the extended reals runs, leaves its arguments and ends quiescent. -/
theorem frame_kernelIdeal : Cert.quiescent_KernelIdeal := fun m ρ h =>
  (θ_run Cert.KernelIdeal.defs _ _).mono (fun _ hr => ⟨fun c => ⟨(hr.1 c).2.1, (hr.1 c).2.2.1, (hr.1 c).2.2.2.1, (hr.1 c).2.2.2.2⟩, hr.2⟩)
    (Launch.run_main (F := Ideal) m ρ (ok_of_pre m h))

/-- The reference runs and leaves its arguments; it has no semaphore. -/
theorem frame_reference : Cert.quiescent_ReferenceIdeal := fun m ρ _ =>
  (θ_run Cert.ReferenceIdeal.defs _ _).mono
    (fun r h => ⟨fun c => ⟨(h c).2.1, (h c).2.2.1, (h c).2.2.2.1, (h c).2.2.2.2⟩, sem_eq_zero_of_no_sems (by decide) r.2⟩)
    (Cert.ReferenceIdeal.Value.run (F := Ideal) m ρ)

theorem frame_reference_pre : Cert.quiescent_ReferenceIdeal_pre_in_range := fun m ρ _ => frame_reference m ρ trivial

/-- The kernel's result and the reference's are the same array. -/
theorem values_agree : Cert.algebraic_KernelIdeal_ReferenceIdeal := fun m ρ m' ρ' h hargs =>
  ⟨fun c => Launch.resV m c,
    (θ_run Cert.KernelIdeal.defs _ _).mono (fun _ hr => hr.1) (Launch.run_main (F := Ideal) m ρ (ok_of_pre m h)),
    (θ_run Cert.ReferenceIdeal.defs _ _).mono
      (fun r hr c => ⟨(hr c).1.trans (by
          have e := hargs c
          rw [e.1, e.2.1, e.2.2.1, e.2.2.2]
          exact (funext fun i => Equal.result_eq _ (fun e => (Range.words_ok (h c) e).1) (fun e => (Range.words_ok (h c) e).2) i).symm),
        (hr c).2.1, (hr c).2.2.1, (hr c).2.2.2.1, (hr c).2.2.2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_pre, trivial, values_agree⟩

end Cert.Proof

end
